-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x768 : Shape := ⟨3, ![2, 2048, 768]⟩
abbrev S768 : Shape := ⟨1, ![768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S_ : Shape := ⟨0, ![]⟩

class Facts : Prop where
  bcast_S_S768 : S_.BroadcastsInDim S768 (![] : Fin 0 → Fin S768.rank)
  reducesTo_S768_S_d0 : S768.ReducesTo [0] S_
  h_S_ : 0 < S_.numel
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S2x2048x768 .f32) (main_arg1 : FVec F S768 .f32) (main_arg2 : FVec F S768 .f32) (main_arg3 : FVec F S768x8 .f32) (main_arg4 : FVec F S8 .f32) (main_arg5 : FVec F S8x768x3072 .f32) (main_arg6 : FVec F S8x3072 .f32) (main_arg7 : FVec F S8x3072x768 .f32) (main_arg8 : FVec F S8x768 .f32) : IVec S_ 1 :=
  let main_v0 : FVec F S768 .f32 := Host.absf main_arg1
  let main_cst : FVec F S_ .f32 := constant S_ .f32 0x7F800000#32
  let main_v1 : FVec F S768 .f32 := broadcastInDim S768 ![] bcast_S_S768 main_cst
  let main_v2 : IVec S768 1 := cmpf .olt main_v0 main_v1
  let main_c : IVec S_ 1 := constantI S_ 1 1#1
  let main_v3 : IVec S_ 1 := (fun x v => Host.reduce IntOp.andi x v reducesTo_S768_S_d0 h_S_) main_v2 main_c
  let main_v4 : FVec F S768 .f32 := Host.absf main_arg2
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768x8 .f32 := Host.absf main_arg3
  let main_cst_2 : FVec F S_ .f32 := constant S_ .f32 0x7F800000#32
  let main_v10 : FVec F S768x8 .f32 := broadcastInDim S768x8 ![] bcast_S_S768x8 main_cst_2
  let main_v11 : IVec S768x8 1 := cmpf .olt main_v9 main_v10
  let main_c_3 : IVec S_ 1 := constantI S_ 1 1#1
  let main_v12 : IVec S_ 1 := (fun x v => Host.reduce IntOp.andi x v reducesTo_S768x8_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S2x2048x768 : Shape := ⟨3, ![2, 2048, 768]⟩
abbrev S768 : Shape := ⟨1, ![768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S4096x768 : Shape := ⟨2, ![4096, 768]⟩
abbrev S1x768 : Shape := ⟨2, ![1, 768]⟩
abbrev S1x8 : Shape := ⟨2, ![1, 8]⟩
abbrev S8x1x3072 : Shape := ⟨3, ![8, 1, 3072]⟩
abbrev S1x768x768 : Shape := ⟨3, ![1, 768, 768]⟩
abbrev S1x1x768 : Shape := ⟨3, ![1, 1, 768]⟩
abbrev S4096x8 : Shape := ⟨2, ![4096, 8]⟩
abbrev S4096 : Shape := ⟨1, ![4096]⟩
abbrev S4096x1 : Shape := ⟨2, ![4096, 1]⟩
abbrev S768x768 : Shape := ⟨2, ![768, 768]⟩

abbrev nBuf : Space → Nat
  | .hbm => 18
  | .vmem => 15
  | .smem => 0
  | _ => 0

abbrev bufTy : (tb : Table) → Fin (tcTables nBuf tb) → BufTy
  | .hbm, ⟨0, _⟩ => ⟨S2x2048x768, .f32⟩
  | .hbm, ⟨1, _⟩ => ⟨S768, .f32⟩
  | .hbm, ⟨2, _⟩ => ⟨S768, .f32⟩
  | .hbm, ⟨3, _⟩ => ⟨S768x8, .f32⟩
  | .hbm, ⟨4, _⟩ => ⟨S8, .f32⟩
  | .hbm, ⟨5, _⟩ => ⟨S8x768x3072, .f32⟩
  | .hbm, ⟨6, _⟩ => ⟨S8x3072, .f32⟩
  | .hbm, ⟨7, _⟩ => ⟨S8x3072x768, .f32⟩
  | .hbm, ⟨8, _⟩ => ⟨S8x768, .f32⟩
  | .hbm, ⟨9, _⟩ => ⟨S4096x768, .f32⟩
  | .hbm, ⟨10, _⟩ => ⟨S8x768x3072, .bf16⟩
  | .hbm, ⟨11, _⟩ => ⟨S8x3072x768, .bf16⟩
  | .hbm, ⟨12, _⟩ => ⟨S1x768, .f32⟩
  | .hbm, ⟨13, _⟩ => ⟨S1x768, .f32⟩
  | .hbm, ⟨14, _⟩ => ⟨S1x8, .f32⟩
  | .hbm, ⟨15, _⟩ => ⟨S8x1x3072, .f32⟩
  | .hbm, ⟨16, _⟩ => ⟨S4096x768, .f32⟩
  | .hbm, ⟨17, _⟩ => ⟨S2x2048x768, .f32⟩
  | .local _ .vmem, ⟨0, _⟩ => ⟨S4096x768, .f32⟩
  | .local _ .vmem, ⟨1, _⟩ => ⟨S1x768, .f32⟩
  | .local _ .vmem, ⟨2, _⟩ => ⟨S1x768, .f32⟩
  | .local _ .vmem, ⟨3, _⟩ => ⟨S768x8, .f32⟩
  | .local _ .vmem, ⟨4, _⟩ => ⟨S1x8, .f32⟩
  | .local _ .vmem, ⟨5, _⟩ => ⟨S1x768x768, .bf16⟩
  | .local _ .vmem, ⟨6, _⟩ => ⟨S1x768x768, .bf16⟩
  | .local _ .vmem, ⟨7, _⟩ => ⟨S1x1x768, .f32⟩
  | .local _ .vmem, ⟨8, _⟩ => ⟨S1x1x768, .f32⟩
  | .local _ .vmem, ⟨9, _⟩ => ⟨S1x768x768, .bf16⟩
  | .local _ .vmem, ⟨10, _⟩ => ⟨S1x768x768, .bf16⟩
  | .local _ .vmem, ⟨11, _⟩ => ⟨S8x768, .f32⟩
  | .local _ .vmem, ⟨12, _⟩ => ⟨S4096x768, .f32⟩
  | .local _ .vmem, ⟨13, _⟩ => ⟨S4096x768, .bf16⟩
  | .local _ .vmem, ⟨14, _⟩ => ⟨S4096x8, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x768x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S2x2048x768 : Shape := ⟨3, ![2, 2048, 768]⟩
abbrev S768 : Shape := ⟨1, ![768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S_ : Shape := ⟨0, ![]⟩
abbrev S2x2048 : Shape := ⟨2, ![2, 2048]⟩
abbrev S2x2048x1 : Shape := ⟨3, ![2, 2048, 1]⟩
abbrev S1x1x768 : Shape := ⟨3, ![1, 1, 768]⟩
abbrev S2x2048x8 : Shape := ⟨3, ![2, 2048, 8]⟩
abbrev S1x1x8 : Shape := ⟨3, ![1, 1, 8]⟩
abbrev S2x2048x2 : Shape := ⟨3, ![2, 2048, 2]⟩
abbrev S4096x768 : Shape := ⟨2, ![4096, 768]⟩
abbrev S4096x2 : Shape := ⟨2, ![4096, 2]⟩
abbrev S8x3072x4096 : Shape := ⟨3, ![8, 3072, 4096]⟩
abbrev S8x4096x3072 : Shape := ⟨3, ![8, 4096, 3072]⟩
abbrev S8x1x3072 : Shape := ⟨3, ![8, 1, 3072]⟩
abbrev S8x4096x768 : Shape := ⟨3, ![8, 4096, 768]⟩
abbrev S8x1x768 : Shape := ⟨3, ![8, 1, 768]⟩
abbrev S4096x8x768 : Shape := ⟨3, ![4096, 8, 768]⟩
abbrev S4096x2x1 : Shape := ⟨3, ![4096, 2, 1]⟩
abbrev S1 : Shape := ⟨1, ![1]⟩
abbrev S1x1x1 : Shape := ⟨3, ![1, 1, 1]⟩
abbrev S4096x2x768 : Shape := ⟨3, ![4096, 2, 768]⟩

abbrev nBuf : Space → Nat
  | .hbm => 110
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768, .f32⟩
  | .hbm, ⟨2, _⟩ => ⟨S768, .f32⟩
  | .hbm, ⟨3, _⟩ => ⟨S768x8, .f32⟩
  | .hbm, ⟨4, _⟩ => ⟨S8, .f32⟩
  | .hbm, ⟨5, _⟩ => ⟨S8x768x3072, .f32⟩
  | .hbm, ⟨6, _⟩ => ⟨S8x3072, .f32⟩
  | .hbm, ⟨7, _⟩ => ⟨S8x3072x768, .f32⟩
  | .hbm, ⟨8, _⟩ => ⟨S8x768, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x768, .f32⟩
  | .hbm, ⟨16, _⟩ => ⟨S2x2048x768, .f32⟩
  | .hbm, ⟨17, _⟩ => ⟨S2x2048x768, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x768, .f32⟩
  | .hbm, ⟨25, _⟩ => ⟨S2x2048x768, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S2x2048x768, .f32⟩
  | .hbm, ⟨31, _⟩ => ⟨S2x2048x768, .f32⟩
  | .hbm, ⟨32, _⟩ => ⟨S1x1x768, .f32⟩
  | .hbm, ⟨33, _⟩ => ⟨S2x2048x768, .f32⟩
  | .hbm, ⟨34, _⟩ => ⟨S2x2048x768, .f32⟩
  | .hbm, ⟨35, _⟩ => ⟨S1x1x768, .f32⟩
  | .hbm, ⟨36, _⟩ => ⟨S2x2048x768, .f32⟩
  | .hbm, ⟨37, _⟩ => ⟨S2x2048x768, .f32⟩
  | .hbm, ⟨38, _⟩ => ⟨S2x2048x8, .f32⟩
  | .hbm, ⟨39, _⟩ => ⟨S1x1x8, .f32⟩
  | .hbm, ⟨40, _⟩ => ⟨S2x2048x8, .f32⟩
  | .hbm, ⟨41, _⟩ => ⟨S2x2048x8, .f32⟩
  | .hbm, ⟨42, _⟩ => ⟨S2x2048x2, .f32⟩
  | .hbm, ⟨43, _⟩ => ⟨S2x2048x2, .i32⟩
  | .hbm, ⟨44, _⟩ => ⟨S_, .f32⟩
  | .hbm, ⟨45, _⟩ => ⟨S2x2048, .f32⟩
  | .hbm, ⟨46, _⟩ => ⟨S_, .f32⟩
  | .hbm, ⟨47, _⟩ => ⟨S2x2048, .f32⟩
  | .hbm, ⟨48, _⟩ => ⟨S2x2048, .f32⟩
  | .hbm, ⟨49, _⟩ => ⟨S2x2048x1, .f32⟩
  | .hbm, ⟨50, _⟩ => ⟨S2x2048x2, .f32⟩
  | .hbm, ⟨51, _⟩ => ⟨S2x2048x2, .f32⟩
  | .hbm, ⟨52, _⟩ => ⟨S2x2048x2, .f32⟩
  | .hbm, ⟨53, _⟩ => ⟨S_, .f32⟩
  | .hbm, ⟨54, _⟩ => ⟨S2x2048, .f32⟩
  | .hbm, ⟨55, _⟩ => ⟨S2x2048x1, .f32⟩
  | .hbm, ⟨56, _⟩ => ⟨S2x2048x2, .f32⟩
  | .hbm, ⟨57, _⟩ => ⟨S2x2048x2, .f32⟩
  | .hbm, ⟨58, _⟩ => ⟨S4096x768, .f32⟩
  | .hbm, ⟨59, _⟩ => ⟨S4096x2, .i32⟩
  | .hbm, ⟨60, _⟩ => ⟨S4096x2, .f32⟩
  | .hbm, ⟨61, _⟩ => ⟨S8x3072x4096, .f32⟩
  | .hbm, ⟨62, _⟩ => ⟨S8x4096x3072, .f32⟩
  | .hbm, ⟨63, _⟩ => ⟨S8x1x3072, .f32⟩
  | .hbm, ⟨64, _⟩ => ⟨S8x4096x3072, .f32⟩
  | .hbm, ⟨65, _⟩ => ⟨S8x4096x3072, .f32⟩
  | .hbm, ⟨66, _⟩ => ⟨S_, .f32⟩
  | .hbm, ⟨67, _⟩ => ⟨S8x4096x3072, .f32⟩
  | .hbm, ⟨68, _⟩ => ⟨S8x4096x3072, .f32⟩
  | .hbm, ⟨69, _⟩ => ⟨S8x4096x3072, .f32⟩
  | .hbm, ⟨70, _⟩ => ⟨S_, .f32⟩
  | .hbm, ⟨71, _⟩ => ⟨S8x4096x3072, .f32⟩
  | .hbm, ⟨72, _⟩ => ⟨S8x4096x3072, .f32⟩
  | .hbm, ⟨73, _⟩ => ⟨S8x4096x3072, .f32⟩
  | .hbm, ⟨74, _⟩ => ⟨S8x4096x3072, .f32⟩
  | .hbm, ⟨75, _⟩ => ⟨S8x4096x768, .f32⟩
  | .hbm, ⟨76, _⟩ => ⟨S8x1x768, .f32⟩
  | .hbm, ⟨77, _⟩ => ⟨S8x4096x768, .f32⟩
  | .hbm, ⟨78, _⟩ => ⟨S8x4096x768, .f32⟩
  | .hbm, ⟨79, _⟩ => ⟨S4096x8x768, .f32⟩
  | .hbm, ⟨80, _⟩ => ⟨S4096x2x1, .i32⟩
  | .hbm, ⟨81, _⟩ => ⟨S_, .i32⟩
  | .hbm, ⟨82, _⟩ => ⟨S4096x2x1, .i32⟩
  | .hbm, ⟨83, _⟩ => ⟨S4096x2x1, .i1⟩
  | .hbm, ⟨84, _⟩ => ⟨S_, .i32⟩
  | .hbm, ⟨85, _⟩ => ⟨S4096x2x1, .i32⟩
  | .hbm, ⟨86, _⟩ => ⟨S4096x2x1, .i32⟩
  | .hbm, ⟨87, _⟩ => ⟨S4096x2x1, .i32⟩
  | .hbm, ⟨88, _⟩ => ⟨S1, .i32⟩
  | .hbm, ⟨89, _⟩ => ⟨S_, .i32⟩
  | .hbm, ⟨90, _⟩ => ⟨S4096x2x1, .i32⟩
  | .hbm, ⟨91, _⟩ => ⟨S4096x2x1, .i1⟩
  | .hbm, ⟨92, _⟩ => ⟨S1x1x1, .i32⟩
  | .hbm, ⟨93, _⟩ => ⟨S4096x2x1, .i32⟩
  | .hbm, ⟨94, _⟩ => ⟨S4096x2x1, .i1⟩
  | .hbm, ⟨95, _⟩ => ⟨S4096x2x1, .i1⟩
  | .hbm, ⟨96, _⟩ => ⟨S_, .i1⟩
  | .hbm, ⟨97, _⟩ => ⟨S4096x2, .i1⟩
  | .hbm, ⟨98, _⟩ => ⟨S4096x2x768, .f32⟩
  | .hbm, ⟨99, _⟩ => ⟨S4096x2x768, .i1⟩
  | .hbm, ⟨100, _⟩ => ⟨S_, .f32⟩
  | .hbm, ⟨101, _⟩ => ⟨S4096x2x768, .f32⟩
  | .hbm, ⟨102, _⟩ => ⟨S4096x2x768, .f32⟩
  | .hbm, ⟨103, _⟩ => ⟨S4096x2x1, .f32⟩
  | .hbm, ⟨104, _⟩ => ⟨S4096x2x768, .f32⟩
  | .hbm, ⟨105, _⟩ => ⟨S4096x2x768, .f32⟩
  | .hbm, ⟨106, _⟩ => ⟨S_, .f32⟩
  | .hbm, ⟨107, _⟩ => ⟨S4096x768, .f32⟩
  | .hbm, ⟨108, _⟩ => ⟨S2x2048x768, .f32⟩
  | .hbm, ⟨109, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_values : Ref sig .tc := ⟨.hbm, 42, rfl⟩
abbrev main_indices : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call0_c : Ref sig .tc := ⟨.hbm, 81, rfl⟩
abbrev main_call0_v0 : Ref sig .tc := ⟨.hbm, 82, rfl⟩
abbrev main_call0_v1 : Ref sig .tc := ⟨.hbm, 83, rfl⟩
abbrev main_call0_c_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_1 : Ref sig .tc := ⟨.hbm, 88, rfl⟩
abbrev main_call0_c_2 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_v9 : Ref sig .tc := ⟨.hbm, 94, rfl⟩
abbrev main_call0_v10 : Ref sig .tc := ⟨.hbm, 95, rfl⟩
abbrev main_call0_c_3 : Ref sig .tc := ⟨.hbm, 96, rfl⟩
abbrev main_call0_v11 : Ref sig .tc := ⟨.hbm, 97, rfl⟩
abbrev main_call0_v12 : Ref sig .tc := ⟨.hbm, 98, rfl⟩
abbrev main_call0_v13 : Ref sig .tc := ⟨.hbm, 99, rfl⟩
abbrev main_call0_cst : Ref sig .tc := ⟨.hbm, 100, rfl⟩
abbrev main_call0_v14 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_9 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩

abbrev nD : Nat := 1
abbrev τ : Topo := Topo.v7x

variable {F : FTy → Type} [FloatOps F]
-- ==== Proof.KernelRun.lean ====
/-
  The run of the idealized kernel, read as values, at any float type `F`.

  The generated frame run gives what the result block and the two carried scratch buffers hold after each of
  the 32 grid points (`Gen.outsAt0`), as the contents its stores leave. Here those contents are read back:
  the first point leaves the normalized rows, the router's weights and the first expert tile; each later
  point adds its own tile to the result block and keeps the scratch (`outs_eq`). The block is the whole
  [4096, 768] array and is written back once, after the last point; the host reshape behind the region
  makes the returned [2, 2048, 768] array of it (`run`).
-/
module

public import proofs.«01_k».proof.Proof.Gen.KernelIdeal.Frame
public import Idealize.ShloMosaic.Lib.Pipeline.Value
public import Idealize.ShloMosaic.Lib.StableHlo.Run
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The normalized rows the first point stores in the first scratch. -/
def rows (x : Vec F S4096x768 .f32) (g b : Vec F S1x768 .f32) : Vec F S4096x768 .bf16 :=
  k0_pay9 (k0_pay3 x g b)

/-- The router's weight of every expert for every row, before the store. -/
def weights (x : Vec F S4096x768 .f32) (g b : Vec F S1x768 .f32) (wr : Vec F S768x8 .f32) (br : Vec F S1x8 .f32) :
    Vec F S4096x8 .f32 :=
  k0_pay7 (k0_pay4 x g b wr br) (iota .tc S4096x8 32 [1] iota_S4096x8_d1_w32) (k0_pay5 x g b wr br) (k0_pay6 x g b wr br)

/-- The weights as the first point stores them in the second scratch. -/
def stored (x : Vec F S4096x768 .f32) (g b : Vec F S1x768 .f32) (wr : Vec F S768x8 .f32) (br : Vec F S1x8 .f32) :
    Vec F S4096x8 .f32 :=
  k0_pay8 (k0_pay4 x g b wr br) (iota .tc S4096x8 32 [1] iota_S4096x8_d1_w32) (k0_pay5 x g b wr br) (k0_pay6 x g b wr br)

/-- The result block as the first point initializes it: the input plus the weighted second biases. -/
def initial (x : Vec F S4096x768 .f32) (g b : Vec F S1x768 .f32) (wr : Vec F S768x8 .f32) (br : Vec F S1x8 .f32)
    (b2 : Vec F S8x768 .f32) : Vec F S4096x768 .f32 :=
  k0_pay10 (k0_pay2 x) (weights x g b wr br) b2 (constant S4096x768 .f32 0x00000000#32)

/-- One point's addition to the result block. -/
def tile (i : grid0.Coords) (h : Vec F S4096x768 .bf16) (w : Vec F S4096x8 .f32) (w1 : Vec F S1x768x768 .bf16)
    (b1 : Vec F S1x1x768 .f32) (w2 : Vec F S1x768x768 .bf16) (o : Vec F S4096x768 .f32) : Vec F S4096x768 .f32 :=
  k0_pay1 (k0_pay11 i h w1 b1 w) (k0_pay12 o) w2

/-- The origin of two axes. -/
theorem hz2 : (![0, 0] : Fin 2 → Nat) = fun _ => 0 := funext fun a => by fin_cases a <;> rfl
/-- The origin of three axes. -/
theorem hz3 : (![0, 0, 0] : Fin 3 → Nat) = fun _ => 0 := funext fun a => by fin_cases a <;> rfl

/-- A later point adds its tile to what the point before left, and keeps both scratch buffers. -/
theorem outs_later (c : Dev nD) (t : Fin cfg0.N) (h0 : ¬t.val % 32 = 0) :
    outsAt0 m c t.val t.isLt =
      (tile (grid0.coords t) (outsAt0 m c (t.val - 1) (Nat.lt_of_le_of_lt (Nat.sub_le _ _) t.isLt)).2.1
        (outsAt0 m c (t.val - 1) (Nat.lt_of_le_of_lt (Nat.sub_le _ _) t.isLt)).2.2
        (iblk m c 5 t) (iblk m c 6 t) (iblk m c 7 t)
        (outsAt0 m c (t.val - 1) (Nat.lt_of_le_of_lt (Nat.sub_le _ _) t.isLt)).1,
       (outsAt0 m c (t.val - 1) (Nat.lt_of_le_of_lt (Nat.sub_le _ _) t.isLt)).2.1,
       (outsAt0 m c (t.val - 1) (Nat.lt_of_le_of_lt (Nat.sub_le _ _) t.isLt)).2.2) := by
  rw [outsAt0_B m c t h0]
  generalize outsAt0 m c (t.val - 1) _ = p
  unfold sout0_B_0 sout0_B_1 out0_B_9
  refine Prod.ext ?_ rfl
  dsimp only
  rw [View.read_writes_eq_canon _ _ _ (cover0_B_9 c _ _ _ _ _ _ _ _ _ _ _ _ _ _ _ _ _ _ _ _ _ _ _ _ _ _ _ _ _ _ _ _ _ _ _ _ _ _)]
  unfold kernelRun0_B
  dsimp only
  try sl_unfold_words
  rw [View.canon_unit_zero hz2]
  have e0 : View.read (Elt F) (View.whole cc0_scratch0) ((Memref.isWhole_whole cc0_scratch0).unread p.2.1) = p.2.1 :=
    (Memref.isWhole_whole cc0_scratch0).read_unread _
  have e1 : View.read (Elt F) (View.whole cc0_scratch1) ((Memref.isWhole_whole cc0_scratch1).unread p.2.2) = p.2.2 :=
    (Memref.isWhole_whole cc0_scratch1).read_unread _
  simp only [View.readAt_eq_ld, View.ld_unit_zero (S := S4096x768) hz2, View.ld_unit_zero (S := S4096x8) hz2,
    View.ld_unit_zero (S := S1x768x768) hz3, View.ld_unit_zero (S := S1x1x768) hz3, Memref.IsWhole.read_unread]
  rw [e0, e1]
  rfl

/-- The first point's contents. -/
theorem outs_first (c : Dev nD) (t : Fin cfg0.N) (h0 : t.val % 32 = 0) :
    outsAt0 m c t.val t.isLt =
      (tile (grid0.coords t) (rows (iblk m c 0 t) (iblk m c 1 t) (iblk m c 2 t))
        (stored (iblk m c 0 t) (iblk m c 1 t) (iblk m c 2 t) (iblk m c 3 t) (iblk m c 4 t))
        (iblk m c 5 t) (iblk m c 6 t) (iblk m c 7 t)
        (initial (iblk m c 0 t) (iblk m c 1 t) (iblk m c 2 t) (iblk m c 3 t) (iblk m c 4 t) (iblk m c 8 t)),
       rows (iblk m c 0 t) (iblk m c 1 t) (iblk m c 2 t),
       stored (iblk m c 0 t) (iblk m c 1 t) (iblk m c 2 t) (iblk m c 3 t) (iblk m c 4 t)) := by
  rw [outsAt0_A m c t h0]
  unfold sout0_A_0 sout0_A_1 out0_A_9
  refine Prod.ext ?_ (Prod.ext ?_ ?_)
  · dsimp only
    rw [View.read_writes_eq_canon _ _ _ (cover0_A_9 c _ _ _ _ _ _ _ _ _ _ _ _ _ _ _ _ _ _ _ _ _ _ _ _ _ _ _ _ _ _ _ _ _ _ _)]
    unfold kernelRun0_A
    dsimp only
    sl_unfold_words
    simp only [View.canon_cons_unit_zero (S := S4096x768) hz2, View.canon_unit_zero (S := S4096x768) hz2, View.canon_unit_zero (S := S4096x8) hz2,
      View.readCov_unit_zero (S := S4096x768) _ hz2, View.readCov_unit_zero (S := S4096x8) _ hz2,
      View.readAt_eq_ld, Memref.IsWhole.read_unread,
      View.ld_unit_zero (S := S4096x768) hz2, View.ld_unit_zero (S := S4096x8) hz2, View.ld_unit_zero (S := S1x768) hz2,
      View.ld_unit_zero (S := S768x8) hz2, View.ld_unit_zero (S := S1x8) hz2, View.ld_unit_zero (S := S8x768) hz2,
      View.ld_unit_zero (S := S1x768x768) hz3, View.ld_unit_zero (S := S1x1x768) hz3]
    rfl
  · dsimp only
    rw [View.read_writes_eq_canon _ _ _ (scover0_A_0 c _ _ _ _ _ _ _ _ _ _ _ _ _ _ _ _ _ _ _ _ _ _ _ _ _ _ _ _ _ _ _ _ _ _ _)]
    unfold kernelRun0_A
    dsimp only
    sl_unfold_words
    simp only [View.canon_cons_unit_zero (S := S4096x768) hz2, View.canon_unit_zero (S := S4096x768) hz2, View.canon_unit_zero (S := S4096x8) hz2,
      View.readCov_unit_zero (S := S4096x768) _ hz2, View.readCov_unit_zero (S := S4096x8) _ hz2,
      View.readAt_eq_ld, Memref.IsWhole.read_unread,
      View.ld_unit_zero (S := S4096x768) hz2, View.ld_unit_zero (S := S4096x8) hz2, View.ld_unit_zero (S := S1x768) hz2,
      View.ld_unit_zero (S := S768x8) hz2, View.ld_unit_zero (S := S1x8) hz2, View.ld_unit_zero (S := S8x768) hz2,
      View.ld_unit_zero (S := S1x768x768) hz3, View.ld_unit_zero (S := S1x1x768) hz3]
    rfl
  · dsimp only
    rw [View.read_writes_eq_canon _ _ _ (scover0_A_1 c _ _ _ _ _ _ _ _ _ _ _ _ _ _ _ _ _ _ _ _ _ _ _ _ _ _ _ _ _ _ _ _ _ _ _)]
    unfold kernelRun0_A
    dsimp only
    sl_unfold_words
    simp only [View.canon_cons_unit_zero (S := S4096x768) hz2, View.canon_unit_zero (S := S4096x768) hz2, View.canon_unit_zero (S := S4096x8) hz2,
      View.readCov_unit_zero (S := S4096x768) _ hz2, View.readCov_unit_zero (S := S4096x8) _ hz2,
      View.readAt_eq_ld, Memref.IsWhole.read_unread,
      View.ld_unit_zero (S := S4096x768) hz2, View.ld_unit_zero (S := S4096x8) hz2, View.ld_unit_zero (S := S1x768) hz2,
      View.ld_unit_zero (S := S768x8) hz2, View.ld_unit_zero (S := S1x8) hz2, View.ld_unit_zero (S := S8x768) hz2,
      View.ld_unit_zero (S := S1x768x768) hz3, View.ld_unit_zero (S := S1x1x768) hz3]
    rfl

/-! ## The grid's coordinates and the windows' blocks -/

/-- The grid is 8 experts by 4 tiles, in row-major order. -/
theorem coords_eq : ∀ t : Fin grid0.N, (grid0.coords t 0).val = t.val / 4 ∧ (grid0.coords t 1).val = t.val % 4 := by
  decide +kernel

/-- The window of the first layer's matrix moves with the expert and the tile. -/
theorem index5 : ∀ t : Fin grid0.N, win0_5.index t = ![t.val / 4, 0, t.val % 4] := by decide +kernel
/-- So does the window of its offset. -/
theorem index6 : ∀ t : Fin grid0.N, win0_6.index t = ![t.val / 4, 0, t.val % 4] := by decide +kernel
/-- And the window of the second layer's matrix, along its other axis. -/
theorem index7 : ∀ t : Fin grid0.N, win0_7.index t = ![t.val / 4, t.val % 4, 0] := by decide +kernel

/-! The windows whose block is their whole array read the array. -/

/-- The window of the rows is the whole array. -/
theorem iblk0 (c : Dev nD) (t : Fin cfg0.N) : (iblk m c 0 t : Vec F S4096x768 .f32) = V m c main_v0 := by
  have hz : (fun a => win0_0.index t a * main_v0.ty.shape.size a) = fun _ => 0 := funext fun a => by
    fin_cases a <;> exact Nat.zero_mul _
  exact Memref.read_access_unit_zero (Elt F) main_v0 hz (fun a => by rw [congrFun hz a]; simp) (V m c main_v0)

/-- The scale's window is the whole array. -/
theorem iblk1 (c : Dev nD) (t : Fin cfg0.N) : (iblk m c 1 t : Vec F S1x768 .f32) = V m c main_v3 := by
  have hz : (fun a => win0_1.index t a * main_v3.ty.shape.size a) = fun _ => 0 := funext fun a => by
    fin_cases a <;> exact Nat.zero_mul _
  exact Memref.read_access_unit_zero (Elt F) main_v3 hz (fun a => by rw [congrFun hz a]; simp) (V m c main_v3)

/-- The offset's window is the whole array. -/
theorem iblk2 (c : Dev nD) (t : Fin cfg0.N) : (iblk m c 2 t : Vec F S1x768 .f32) = V m c main_v4 := by
  have hz : (fun a => win0_2.index t a * main_v4.ty.shape.size a) = fun _ => 0 := funext fun a => by
    fin_cases a <;> exact Nat.zero_mul _
  exact Memref.read_access_unit_zero (Elt F) main_v4 hz (fun a => by rw [congrFun hz a]; simp) (V m c main_v4)

/-- The router's window is the whole array. -/
theorem iblk3 (c : Dev nD) (t : Fin cfg0.N) : (iblk m c 3 t : Vec F S768x8 .f32) = V m c main_arg3 := by
  have hz : (fun a => win0_3.index t a * main_arg3.ty.shape.size a) = fun _ => 0 := funext fun a => by
    fin_cases a <;> exact Nat.zero_mul _
  exact Memref.read_access_unit_zero (Elt F) main_arg3 hz (fun a => by rw [congrFun hz a]; simp) (V m c main_arg3)

/-- The router's offset's window is the whole array. -/
theorem iblk4 (c : Dev nD) (t : Fin cfg0.N) : (iblk m c 4 t : Vec F S1x8 .f32) = V m c main_v5 := by
  have hz : (fun a => win0_4.index t a * main_v5.ty.shape.size a) = fun _ => 0 := funext fun a => by
    fin_cases a <;> exact Nat.zero_mul _
  exact Memref.read_access_unit_zero (Elt F) main_v5 hz (fun a => by rw [congrFun hz a]; simp) (V m c main_v5)

/-- The second offsets' window is the whole array. -/
theorem iblk8 (c : Dev nD) (t : Fin cfg0.N) : (iblk m c 8 t : Vec F S8x768 .f32) = V m c main_arg8 := by
  have hz : (fun a => win0_8.index t a * main_arg8.ty.shape.size a) = fun _ => 0 := funext fun a => by
    fin_cases a <;> exact Nat.zero_mul _
  exact Memref.read_access_unit_zero (Elt F) main_arg8 hz (fun a => by rw [congrFun hz a]; simp) (V m c main_arg8)

/-! ## The host operations before the region -/

/-- The region finds the rows of all batches as one list. -/
theorem V_v0 (c : Dev nD) : V m c main_v0 = shapeCast S4096x768 (m ((c : Thread nD τ).loc main_arg0)) shapeCasts_S2x2048x768_S4096x768 := by
  simp only [V, V0, hostOps0, List.flatten_cons, List.flatten_nil, List.append_nil]
  after_results_simp <;> rfl

/-- The region finds the first layers narrowed. -/
theorem V_v1 (c : Dev nD) : V m c main_v1 = truncf .bf16 (m ((c : Thread nD τ).loc main_arg5)) bitsLt_bf16_f32 := by
  simp only [V, V0, hostOps0, List.flatten_cons, List.flatten_nil, List.append_nil]
  after_results_simp <;> rfl

/-- The region finds the second layers narrowed. -/
theorem V_v2 (c : Dev nD) : V m c main_v2 = truncf .bf16 (m ((c : Thread nD τ).loc main_arg7)) bitsLt_bf16_f32 := by
  simp only [V, V0, hostOps0, List.flatten_cons, List.flatten_nil, List.append_nil]
  after_results_simp <;> rfl

/-- The region finds the scale as one row. -/
theorem V_v3 (c : Dev nD) : V m c main_v3 = shapeCast S1x768 (m ((c : Thread nD τ).loc main_arg1)) shapeCasts_S768_S1x768 := by
  simp only [V, V0, hostOps0, List.flatten_cons, List.flatten_nil, List.append_nil]
  after_results_simp <;> rfl

/-- The region finds the offset as one row. -/
theorem V_v4 (c : Dev nD) : V m c main_v4 = shapeCast S1x768 (m ((c : Thread nD τ).loc main_arg2)) shapeCasts_S768_S1x768 := by
  simp only [V, V0, hostOps0, List.flatten_cons, List.flatten_nil, List.append_nil]
  after_results_simp <;> rfl

/-- The region finds the router's offset as one row. -/
theorem V_v5 (c : Dev nD) : V m c main_v5 = shapeCast S1x8 (m ((c : Thread nD τ).loc main_arg4)) shapeCasts_S8_S1x8 := by
  simp only [V, V0, hostOps0, List.flatten_cons, List.flatten_nil, List.append_nil]
  after_results_simp <;> rfl

/-- The region finds each expert's first offset as one row. -/
theorem V_v6 (c : Dev nD) : V m c main_v6 = shapeCast S8x1x3072 (m ((c : Thread nD τ).loc main_arg6)) shapeCasts_S8x3072_S8x1x3072 := by
  simp only [V, V0, hostOps0, List.flatten_cons, List.flatten_nil, List.append_nil]
  after_results_simp <;> rfl

/-! ## The result block, as a fold over the points -/

/-- The normalized rows, of the launch's arguments. -/
def rowsOf (c : Dev nD) : Vec F S4096x768 .bf16 := rows (V m c main_v0) (V m c main_v3) (V m c main_v4)

/-- The stored weights, of the launch's arguments. -/
def storedOf (c : Dev nD) : Vec F S4096x8 .f32 :=
  stored (V m c main_v0) (V m c main_v3) (V m c main_v4) (V m c main_arg3) (V m c main_v5)

/-- The initialized result block, of the launch's arguments. -/
def initialOf (c : Dev nD) : Vec F S4096x768 .f32 :=
  initial (V m c main_v0) (V m c main_v3) (V m c main_v4) (V m c main_arg3) (V m c main_v5) (V m c main_arg8)

/-- Point `t`'s addition to the block `o`. -/
def addTile (c : Dev nD) (t : Fin cfg0.N) (o : Vec F S4096x768 .f32) : Vec F S4096x768 .f32 :=
  tile (grid0.coords t) (rowsOf m c) (storedOf m c) (iblk m c 5 t) (iblk m c 6 t) (iblk m c 7 t) o

/-- The result block after point `n`: the initialized block with the tiles of points `0, …, n` added in order. -/
def block (c : Dev nD) : (n : ℕ) → n < cfg0.N → Vec F S4096x768 .f32
  | 0, h => addTile m c ⟨0, h⟩ (initialOf m c)
  | n + 1, h => addTile m c ⟨n + 1, h⟩ (block c n (Nat.lt_of_succ_lt h))

/-- What the staging buffer and the scratch hold after point `n`, by induction on the point. -/
theorem outs_eq (c : Dev nD) : ∀ (n : ℕ) (h : n < cfg0.N), outsAt0 m c n h = (block m c n h, rowsOf m c, storedOf m c)
  | 0, h => by
    rw [outs_first m c ⟨0, h⟩ rfl, iblk0, iblk1, iblk2, iblk3, iblk4, iblk8]
    rfl
  | n + 1, h => by
    have hN : cfg0.N = 32 := N_0
    have hB : ¬(⟨n + 1, h⟩ : Fin cfg0.N).val % 32 = 0 := by dsimp only; omega
    rw [outs_later m c ⟨n + 1, h⟩ hB]
    have e := outs_eq c n (Nat.lt_of_succ_lt h)
    show (tile _ (outsAt0 m c n _).2.1 (outsAt0 m c n _).2.2 _ _ _ (outsAt0 m c n _).1, (outsAt0 m c n _).2.1, (outsAt0 m c n _).2.2) = _
    rw [e]
    rfl

/-- There are thirty-two points. -/
theorem last_lt : 31 < cfg0.N := by rw [show cfg0.N = 32 from N_0]; decide

/-- The array the region leaves: the block after the last point. -/
abbrev whole (c : Dev nD) : Buf (Elt F) ((c : Thread nD τ).loc main_v7) := block m c 31 last_lt

/-- The one write-back is after the last point, and writes the whole array. -/
theorem flushed_eq (c : Dev nD) (t : Fin cfg0.N) (hf : (cfg0.win 9).flush t = true) :
    (dats m 0 c).flushed 9 t = ((cfg0.win 9).blk t).view.read (Elt F) (whole m c) := by
  have hN : cfg0.N = 32 := N_0
  have h31 : t.val = 31 := by have := (flush0_9 t).mp hf; have := t.isLt; omega
  obtain rfl : t = ⟨31, last_lt⟩ := Fin.ext h31
  show (cfg0.win 9).cut (grid0.coords ⟨31, last_lt⟩) ((dats m 0 c).after 9 ⟨31, last_lt⟩) = _
  rw [after0_9, outs_eq]
  have hz : (fun a => win0_9.index ⟨31, last_lt⟩ a * main_v7.ty.shape.size a) = fun _ => 0 := funext fun a => by
    fin_cases a <;> exact Nat.zero_mul _
  exact (Memref.read_access_unit_zero (Elt F) main_v7 hz (fun a => by rw [congrFun hz a]; simp) (whole m c)).symm

/-- So the region's result array ends holding the block after the last point. -/
theorem final_array (c : Dev nD) : (dats m 0 c).arrAt 9 cfg0.N = whole m c :=
  (dats m 0 c).arrAt_eq_of_cover 9 (whole m c) (flushed_eq m c) fun i =>
    ⟨⟨31, last_lt⟩, (flush0_9 _).mpr rfl, by
      show i ∈ ((View.whole main_v7).slice (win0_9.rect ⟨31, last_lt⟩)).set
      rw [View.set_slice_whole, Rect.mem_set_unit]
      intro a
      have h0 : (i 0 : Nat) < 4096 := (i 0).isLt
      have h1 : (i 1 : Nat) < 768 := (i 1).isLt
      match a with
      | ⟨0, _⟩ => show 0 * 4096 ≤ (i 0 : Nat) ∧ (i 0 : Nat) < 0 * 4096 + 4096; omega
      | ⟨1, _⟩ => show 0 * 768 ≤ (i 1 : Nat) ∧ (i 1 : Nat) < 0 * 768 + 768; omega⟩

/-- What the host reshape behind the region makes of it: the returned array. -/
theorem tail_eq (c : Dev nD) : Pipeline.afterTail₀ cfgs (dats m) 0 (V0 m) [hostOps1] c main_v8
    = shapeCast S2x2048x768 (whole m c) shapeCasts_S4096x768_S2x2048x768 := by
  unfold Pipeline.afterTail₀
  have e := Pipeline.withArrays_arr spec0 (by decide) c (V0 m c) (fun w => (dats m 0 c).arrAt w cfg0.N) 9
  simp only [hostOps1, List.flatten_cons, List.flatten_nil, List.append_nil]
  after_results_simp
  exact congrArg (fun v : Vec F S4096x768 .f32 => shapeCast S2x2048x768 v shapeCasts_S4096x768_S2x2048x768) (e.trans (final_array m c))

/-- The kernel's run: the returned array at the reshaped block, the arguments unchanged. -/
theorem run : θ_run defs (onTc (τ := τ) (main (F := F))) ⟨m, fun _ => 0, ρ⟩ fun r => ∀ c : Dev nD,
    r.2.mem ((c : Thread nD τ).loc main_v8) = shapeCast S2x2048x768 (whole m c) shapeCasts_S4096x768_S2x2048x768 :=
  (θ_run defs _ _).mono (fun _ h c => ((h c).2 main_v8 (by decide)).trans (tail_eq m c)) (run_main m ρ)

end Cert.KernelIdeal.Moe

end
-- ==== Proof.Spec.lean ====
/-
  What both programs compute for one row, on the extended reals, with no mention of either program.

  A row of 768 values is normalized, the router gives it eight logits, the two experts with the largest
  logits are chosen, and their outputs are mixed by two gates that sum to one. The definitions are in the form the
  kernel computes in; the facts about rows and real logits at the end are what the reference's form needs.
-/
module

public import Idealize.ShloMosaic.PureOps
public import Idealize.ShloMosaic.PureOps.Ideal.Laws

@[expose] public section

noncomputable section

namespace Cert.Moe

open Idealize.ShloMosaic
open scoped BigOperators

/-! ## The constants -/

/-- The row length, as the programs write it. -/
abbrev width : EReal := Ideal.ofBits .f32 0x44400000#32
/-- The small constant under the root. -/
abbrev small : EReal := Ideal.ofBits .f32 0x3727C5AC#32
/-- One half. -/
abbrev half : EReal := Ideal.ofBits .f32 0x3F000000#32
/-- The activation's scale, the float next to the root of one half. -/
abbrev scale : EReal := Ideal.ofBits .f32 0x3F3504F3#32

/-- The row length is 768. -/
theorem width_eq : width = ((768 : ℝ) : EReal) := by
  simp [width, Ideal.ofBits, Ideal.ieee, -EReal.coe_mul]; norm_num

/-- The small constant is a positive real. -/
theorem small_pos : ∃ s : ℝ, 0 < s ∧ small = (s : EReal) :=
  ⟨10995116 * 2 ^ (-40 : ℤ), by positivity, by simp [small, Ideal.ofBits, Ideal.ieee, -EReal.coe_mul]⟩

/-- The pattern a maximum starts from is the least extended real. -/
theorem lowest_eq : Ideal.ofBits .f32 0xFF800000#32 = ⊥ := by simp [Ideal.ofBits, Ideal.ieee]

/-- The pattern a magnitude is compared with is the greatest extended real. -/
theorem greatest_eq : Ideal.ofBits .f32 0x7F800000#32 = ⊤ := by simp [Ideal.ofBits, Ideal.ieee]

/-! ## One row -/

/-- A row's mean. -/
def mean (r : Fin 768 → EReal) : EReal := Ideal.div (∑ k, r k) width

/-- A row's mean square distance from its mean, plus the small constant. -/
def spread (r : Fin 768 → EReal) : EReal := Ideal.div (∑ k, (r k - mean r) * (r k - mean r)) width + small

/-- The normalized row, scaled by `g` and moved by `b`. -/
def norm (r g b : Fin 768 → EReal) (k : Fin 768) : EReal := (r k - mean r) * Ideal.rsqrt (spread r) * g k + b k

/-- The router's logit of expert `e` for a normalized row. -/
def logit (h : Fin 768 → EReal) (wr : Fin 768 → Fin 8 → EReal) (br : Fin 8 → EReal) (e : Fin 8) : EReal :=
  ∑ k, h k * wr k e + br e

/-- The first layer's value at one hidden unit. -/
def unit (h : Fin 768 → EReal) (w : Fin 768 → EReal) (b : EReal) : EReal := ∑ k, h k * w k + b

/-- The activation. -/
def act (z : EReal) : EReal := half * z * (1 + Ideal.erf (z * scale))

/-- The logits with expert `a` put last. -/
def without (L : Fin 8 → EReal) (a e : Fin 8) : EReal := if e = a then ⊥ else L e

/-- The larger gate, of the two largest logits. -/
def gate (u v : EReal) : EReal := Ideal.div 1 (1 + Ideal.exp (v - u))

/-- The weight of expert `e` for a row whose two largest logits are at `a` and `b`. -/
def weight (L : Fin 8 → EReal) (a b e : Fin 8) : EReal :=
  (if e = a then gate (L a) (L b) else 0) + (if e = b then 1 - gate (L a) (L b) else 0)

/-! ## Real values -/

/-- An extended real that is a real. -/
def IsReal (x : EReal) : Prop := ∃ r : ℝ, x = (r : EReal)

/-- A real is one. -/
theorem IsReal.coe (r : ℝ) : IsReal (r : EReal) := ⟨r, rfl⟩

/-- So is a sum of two. -/
theorem IsReal.add {x y : EReal} : IsReal x → IsReal y → IsReal (x + y)
  | ⟨r, hr⟩, ⟨s, hs⟩ => ⟨r + s, by rw [hr, hs, EReal.coe_add]⟩

/-- So is a difference. -/
theorem IsReal.sub {x y : EReal} : IsReal x → IsReal y → IsReal (x - y)
  | ⟨r, hr⟩, ⟨s, hs⟩ => ⟨r - s, by rw [hr, hs, EReal.coe_sub]⟩

/-- So is a product. -/
theorem IsReal.mul {x y : EReal} : IsReal x → IsReal y → IsReal (x * y)
  | ⟨r, hr⟩, ⟨s, hs⟩ => ⟨r * s, by rw [hr, hs, EReal.coe_mul]⟩

/-- A sum of reals is a real. -/
theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A sum of reals none of which is negative is such a real. -/
theorem sum_nonneg_real {ι : Type} (s : Finset ι) {f : ι → EReal} (h : ∀ i, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    obtain ⟨r, hr, er⟩ := ih
    obtain ⟨q, hq, eq⟩ := h a
    exact ⟨q + r, add_nonneg hq hr, by rw [Finset.sum_insert ha, er, eq, EReal.coe_add]⟩

/-- A magnitude below the greatest extended real is a real's. -/
theorem IsReal.of_abs_lt {x : EReal} (h : max x (-x) < ⊤) : IsReal x := by
  induction x using EReal.rec with
  | bot => simp at h
  | top => simp at h
  | coe r => exact ⟨r, rfl⟩

/-- A quotient by the row length is the product with its inverse. -/
theorem div_width (x : EReal) : Ideal.div x width = x * ((1 / 768 : ℝ) : EReal) := by
  rw [width_eq, Ideal.div_coe (by norm_num)]

/-- A square is not negative. -/
theorem square_nonneg (y : EReal) : 0 ≤ y * y := by
  induction y using EReal.rec with
  | bot => simp
  | top => simp
  | coe r => rw [← EReal.coe_mul]; exact EReal.coe_nonneg.mpr (mul_self_nonneg r)

/-- The square of what is no real is the greatest extended real. -/
theorem square_top {y : EReal} (h : ¬IsReal y) : y * y = ⊤ := by
  induction y using EReal.rec with
  | bot => simp
  | top => simp
  | coe r => exact absurd (.coe r) h

/-- A row's spread is infinite, or it is a positive real and all distances from the mean are reals. -/
theorem spread_cases (r : Fin 768 → EReal) : spread r = ⊤ ∨ (∃ s : ℝ, 0 < s ∧ spread r = (s : EReal)) ∧ ∀ k, IsReal (r k - mean r) := by
  obtain ⟨s, hs, es⟩ := small_pos
  by_cases h : ∀ k, IsReal (r k - mean r)
  · refine .inr ⟨?_, h⟩
    obtain ⟨q, hq, eq⟩ := sum_nonneg_real (f := fun k => (r k - mean r) * (r k - mean r)) Finset.univ fun k => by
      obtain ⟨d, hd⟩ := h k
      exact ⟨d * d, mul_self_nonneg d, by rw [hd, EReal.coe_mul]⟩
    refine ⟨q * (1 / 768) + s, by positivity, ?_⟩
    unfold spread
    rw [div_width, eq, es, EReal.coe_add, EReal.coe_mul]
  · refine .inl ?_
    rw [not_forall] at h
    obtain ⟨k, hk⟩ := h
    have hsum : ∑ k, (r k - mean r) * (r k - mean r) = ⊤ := by
      rw [← Finset.add_sum_erase _ _ (Finset.mem_univ k), square_top hk]
      refine EReal.top_add_of_ne_bot (ne_of_gt (lt_of_lt_of_le EReal.bot_lt_zero ?_))
      exact Finset.sum_nonneg fun i _ => square_nonneg _
    unfold spread
    rw [div_width, hsum, EReal.top_mul_coe_of_pos (by norm_num), es, EReal.top_add_coe]

/-- The quotient by the root of a positive real is the product with the inverse root. -/
theorem div_sqrt {s : ℝ} (hs : 0 < s) (x : EReal) : Ideal.div x (Ideal.sqrt (s : EReal)) = x * Ideal.rsqrt (s : EReal) := by
  have h0 : Real.sqrt s ≠ 0 := (Real.sqrt_pos.mpr hs).ne'
  have e1 : Ideal.sqrt (s : EReal) = ((Real.sqrt s : ℝ) : EReal) := if_neg (not_lt.mpr hs.le)
  have e2 : Ideal.rsqrt (s : EReal) = (((Real.sqrt s)⁻¹ : ℝ) : EReal) :=
    (if_neg (not_lt.mpr hs.le)).trans (if_neg hs.ne')
  rw [e1, e2, Ideal.div_coe h0, one_div]

/-- The inverse root of a positive real is a real. -/
theorem rsqrt_real {s : ℝ} (hs : 0 < s) : IsReal (Ideal.rsqrt (s : EReal)) :=
  ⟨(Real.sqrt s)⁻¹, (if_neg (not_lt.mpr hs.le)).trans (if_neg hs.ne')⟩

/-- The normalized row, in the quotient's form: of an infinite spread both forms vanish. -/
theorem norm_eq_div (r g b : Fin 768 → EReal) (k : Fin 768) :
    Ideal.div (r k - mean r) (Ideal.sqrt (spread r)) * g k + b k = norm r g b k := by
  unfold norm
  obtain h | ⟨⟨s, hs, es⟩, -⟩ := spread_cases r
  · rw [h, show Ideal.sqrt ⊤ = ⊤ from rfl, show Ideal.rsqrt ⊤ = 0 from rfl, show Ideal.div (r k - mean r) ⊤ = (r k - mean r) * ⊤⁻¹ from if_neg EReal.top_ne_zero,
      EReal.inv_top]
  · rw [es, div_sqrt hs]

/-- A normalized row is real, whatever the row. -/
theorem norm_real (r : Fin 768 → EReal) {g b : Fin 768 → EReal} (hg : ∀ k, IsReal (g k)) (hb : ∀ k, IsReal (b k)) (k : Fin 768) :
    IsReal (norm r g b k) := by
  unfold norm
  obtain h | ⟨⟨s, hs, es⟩, hd⟩ := spread_cases r
  · rw [h, show Ideal.rsqrt ⊤ = 0 from rfl, mul_zero, zero_mul, zero_add]
    exact hb k
  · rw [es]
    exact (((hd k).mul (rsqrt_real hs)).mul (hg k)).add (hb k)

/-- Logits of a real row are real. -/
theorem logit_real {h : Fin 768 → EReal} {wr : Fin 768 → Fin 8 → EReal} {br : Fin 8 → EReal} (hh : ∀ k, IsReal (h k))
    (hw : ∀ k e, IsReal (wr k e)) (hb : ∀ e, IsReal (br e)) (e : Fin 8) : IsReal (logit h wr br e) :=
  (IsReal.sum _ fun k => (hh k).mul (hw k e)).add (hb e)

/-- The activation, by the complementary error function. -/
theorem act_eq_erfc (z : EReal) : half * z * Ideal.erfc (-z * scale) = act z := by
  unfold act
  rw [EReal.neg_mul, Ideal.erfc_neg]

/-! ## The gates of real logits -/

/-- The larger gate of two reals. -/
theorem gate_coe (u v : ℝ) : gate (u : EReal) (v : EReal) = ((1 / (1 + Real.exp (v - u)) : ℝ) : EReal) := by
  have h : (1 + Real.exp (v - u) : ℝ) ≠ 0 := by positivity
  have e : (1 : EReal) + Ideal.exp ((v : EReal) - (u : EReal)) = ((1 + Real.exp (v - u) : ℝ) : EReal) := by
    rw [← EReal.coe_sub, EReal.coe_add, EReal.coe_one]; rfl
  unfold gate
  rw [e, Ideal.div_coe h, one_mul]

/-- The gates of two logits, as the exponentials over their sum, `u` the larger. -/
theorem softmax_fst (u v : ℝ) : Ideal.div (Ideal.exp ((u : EReal) - u)) (Ideal.exp ((u : EReal) - u) + Ideal.exp ((v : EReal) - u)) = gate u v := by
  have e : Ideal.exp ((u : EReal) - u) = 1 := by
    rw [← EReal.coe_sub, sub_self]
    show ((Real.exp 0 : ℝ) : EReal) = 1
    rw [Real.exp_zero, EReal.coe_one]
  rw [e]; rfl

/-- The second of the two quotients is the rest of the gate. -/
theorem softmax_snd (u v : ℝ) : Ideal.div (Ideal.exp ((v : EReal) - u)) (Ideal.exp ((u : EReal) - u) + Ideal.exp ((v : EReal) - u)) = 1 - gate u v := by
  have h : (1 + Real.exp (v - u) : ℝ) ≠ 0 := by positivity
  have e : Ideal.exp ((u : EReal) - u) = 1 := by
    rw [← EReal.coe_sub, sub_self]
    show ((Real.exp 0 : ℝ) : EReal) = 1
    rw [Real.exp_zero, EReal.coe_one]
  have e' : Ideal.exp ((v : EReal) - u) = ((Real.exp (v - u) : ℝ) : EReal) := by rw [← EReal.coe_sub]; rfl
  have es : (1 : EReal) + ((Real.exp (v - u) : ℝ) : EReal) = ((1 + Real.exp (v - u) : ℝ) : EReal) := by
    rw [EReal.coe_add, EReal.coe_one]
  rw [gate_coe, e, e', es, Ideal.div_coe h, ← EReal.coe_mul, ← EReal.coe_one, ← EReal.coe_sub]
  congr 1
  field_simp
  ring

/-- Both gates are reals that are not negative. -/
theorem gate_nonneg (u v : ℝ) : ∃ p : ℝ, 0 ≤ p ∧ gate u v = (p : EReal) := ⟨_, by positivity, gate_coe u v⟩

/-- So is the rest of a gate. -/
theorem gate_rest_nonneg (u v : ℝ) : ∃ p : ℝ, 0 ≤ p ∧ 1 - gate u v = (p : EReal) := by
  refine ⟨1 - 1 / (1 + Real.exp (v - u)), ?_, by rw [gate_coe, EReal.coe_sub, EReal.coe_one]⟩
  rw [sub_nonneg, div_le_one (by positivity)]
  linarith [Real.exp_pos (v - u)]

end Cert.Moe

end
-- ==== Proof.Select.lean ====
/-
  The choice of the two largest of eight logits, in the two ways the programs make it.

  `FirstMax L a` says that `a` is the first position of the greatest value of `L`. The kernel takes the row maximum
  and then the least position that reaches it (`fold_max`, `fold_position`), puts that position last and does so
  again; the reference sorts the positions stably by decreasing logit and keeps two (`sorted_fst`, `sorted_snd`).
  Ties go to the lower position in both.
-/
module

public import proofs.«01_k».proof.Proof.Spec
public import Idealize.ShloMosaic.Lib.SortPrefix
public import Idealize.ShloMosaic.PureOps.Reduce

@[expose] public section

noncomputable section

namespace Cert.Moe

open Idealize.ShloMosaic

/-- `a` is the first position of the greatest value of `L`. -/
structure FirstMax (L : Fin 8 → EReal) (a : Fin 8) : Prop where
  le : ∀ e, L e ≤ L a
  lt : ∀ e, e < a → L e < L a

/-- There is a first position of the greatest value. -/
theorem exists_firstMax (L : Fin 8 → EReal) : ∃ a, FirstMax L a := by
  obtain ⟨p, hp⟩ := Finite.exists_max L
  obtain ⟨a, ha, hmin⟩ := wellFounded_lt.has_min {a : Fin 8 | ∀ e, L e ≤ L a} ⟨p, hp⟩
  refine ⟨a, ha, fun e he => ?_⟩
  by_contra hc
  exact hmin e (fun e' => (ha e').trans (not_lt.mp hc)) he

/-- The maximum of all is the value at the first position. -/
theorem fold_max {L : Fin 8 → EReal} {a : Fin 8} (h : FirstMax L a) : (Finset.univ : Finset (Fin 8)).fold max ⊥ L = L a :=
  le_antisymm (Finset.fold_max_le _ |>.mpr ⟨bot_le, fun e _ => h.le e⟩) (Finset.le_fold_max _ |>.mpr (.inr ⟨a, Finset.mem_univ _, le_rfl⟩))

/-- The signed minimum of words is the minimum of their signed values. -/
theorem toInt_minsi_eq (x y : BitVec 32) : (IntOp.minsi x y).toInt = min x.toInt y.toInt := by
  unfold IntOp.minsi
  simp only [BitVec.slt, decide_eq_true_eq]
  split_ifs with h <;> omega

/-- The least position that reaches the maximum, as a word, is the first position. -/
theorem fold_position {L : Fin 8 → EReal} {a : Fin 8} (h : FirstMax L a) :
    (Finset.univ : Finset (Fin 8)).fold IntOp.minsi 2147483647#32 (fun e => if L a ≤ L e then BitVec.ofNat 32 e.val else 8#32)
      = BitVec.ofNat 32 a.val := by
  have hv : ∀ e : Fin 8, (BitVec.ofNat 32 e.val).toInt = (e.val : Int) := by decide
  apply BitVec.eq_of_toInt_eq
  rw [← Finset.fold_hom (op' := min) toInt_minsi_eq, hv]
  apply le_antisymm
  · refine (Finset.fold_min_le _).mpr (.inr ⟨a, Finset.mem_univ _, ?_⟩)
    rw [if_pos le_rfl, hv]
  · refine (Finset.le_fold_min _).mpr ⟨?_, fun e _ => ?_⟩
    · have := a.isLt
      have e : (2147483647#32 : BitVec 32).toInt = 2147483647 := by decide
      rw [e]; omega
    · split_ifs with hle
      · rw [hv]
        have : ¬e < a := fun hlt => absurd hle (not_le.mpr (h.lt e hlt))
        have : a.val ≤ e.val := not_lt.mp this
        exact_mod_cast this
      · have := a.isLt
        have e8 : (8#32 : BitVec 32).toInt = 8 := by decide
        rw [e8]; omega

/-- With the first position put last, the next choice is another position: every logit is above the least value. -/
theorem second_ne {L : Fin 8 → EReal} {a b : Fin 8} (hL : ∀ e, IsReal (L e)) (hb : FirstMax (without L a) b) : b ≠ a := by
  rintro rfl
  obtain ⟨e, he⟩ : ∃ e : Fin 8, e ≠ b := exists_ne b
  have h := hb.le e
  obtain ⟨r, hr⟩ := hL e
  simp only [without, if_neg he, if_pos, hr] at h
  exact absurd h (not_le.mpr (EReal.bot_lt_coe r))

/-- Stable sorts by two relations agree when the relations agree on every later element against an earlier one. -/
theorem stableSort_eq {ι : Type} (B R : ι → ι → Bool) (l : List ι) (h : l.Pairwise fun a b => B b a = R b a) :
    stableSort B l = stableSort R l := by
  induction l with
  | nil => rfl
  | cons a l ih =>
    rw [List.pairwise_cons] at h
    unfold stableSort
    rw [ih h.2]
    exact insertBefore_congr B R a _ fun b hb => h.1 b ((perm_stableSort R l).mem_iff.mp hb)

/-- "The logit at `k` is the larger": the comparison the reference sorts by. -/
def above (L : Fin 8 → EReal) (k k' : Fin 8) : Bool := decide (L k' < L k)

/-- The same with ties broken by position. -/
def ahead (L : Fin 8 → EReal) (k k' : Fin 8) : Bool := decide (L k' < L k) || (decide (L k = L k') && decide (k < k'))

/-- The order is strict and total. -/
theorem ahead_total (L : Fin 8 → EReal) : StrictTotalBefore (ahead L) :=
  StrictTotalBefore.of_key_then_position (fun x y : EReal => decide (y < x)) L (fun a => by simp)
    (fun a b c h h' => by simp only [decide_eq_true_eq] at *; exact h'.trans h)
    (fun a b => by simp only [decide_eq_true_eq]; exact (lt_trichotomy b a).imp id (Or.imp Eq.symm id))

/-- The stable sort by the comparison alone is the one that breaks ties by position. -/
theorem sorted_above (L : Fin 8 → EReal) (k : Fin 8) : sortedFrom (above L) k = sortedFrom (ahead L) k := by
  have e : sortPositions 8 (above L) = sortPositions 8 (ahead L) :=
    stableSort_eq _ _ _ ((List.pairwise_lt_finRange 8).imp fun {a b} hab => by
      simp only [above, ahead, not_lt.mpr hab.le, decide_false, Bool.and_false, Bool.or_false])
  unfold sortedFrom
  rw [List.get_of_eq e]
  rfl

/-- The first two sorted positions are the two choices. -/
theorem sorted_two {L : Fin 8 → EReal} {a b : Fin 8} (hL : ∀ e, IsReal (L e)) (ha : FirstMax L a) (hb : FirstMax (without L a) b)
    (i : Fin 2) : sortedFrom (above L) (i.castLE (by decide)) = (![a, b] : Fin 2 → Fin 8) i := by
  have hne : b ≠ a := second_ne hL hb
  have hb' : ∀ p, p ≠ a → L p ≤ L b := fun p hp => by
    have := hb.le p
    simpa only [without, if_neg hp, if_neg hne] using this
  have hb'' : ∀ p, p ≠ a → p < b → L p < L b := fun p hp hlt => by
    have := hb.lt p hlt
    simpa only [without, if_neg hp, if_neg hne] using this
  have no_a : ∀ p, ahead L p a = false := fun p => by
    simp only [ahead, Bool.or_eq_false_iff, Bool.and_eq_false_iff, decide_eq_false_iff_not]
    refine ⟨not_lt.mpr (ha.le p), ?_⟩
    by_cases hp : p < a
    · exact .inl (ha.lt p hp).ne
    · exact .inr hp
  have no_b : ∀ p, p ≠ a → ahead L p b = false := fun p hpa => by
    simp only [ahead, Bool.or_eq_false_iff, Bool.and_eq_false_iff, decide_eq_false_iff_not]
    refine ⟨not_lt.mpr (hb' p hpa), ?_⟩
    by_cases hp : p < b
    · exact .inl (hb'' p hpa hp).ne
    · exact .inr hp
  rw [sorted_above]
  refine (ahead_total L).sortedFrom_eq_of_prefix (k := 2) (by decide) ![a, b] ?_ ?_ ?_ i
  · intro x y hxy
    fin_cases x <;> fin_cases y <;> first | rfl | exact absurd hxy.symm hne | exact absurd hxy hne
  · intro x y hxy
    fin_cases x <;> fin_cases y <;> first | exact absurd hxy (by decide) | exact no_a _
  · intro x p hp
    fin_cases x
    · exact no_a p
    · exact no_b p (fun e => hp 0 e.symm)

end Cert.Moe

end
-- ==== Proof.Mix.lean ====
/-
  The mathematics of the mix: a weighted sum over all eight experts, cut into thirty-two tiles, is the gated sum
  over the two chosen experts.

  Nothing is asked of the experts' outputs, which may be infinite: the weights are reals that are not negative, and
  a product with such a real distributes over every sum of extended reals.
-/
module

public import proofs.«01_k».proof.Proof.Spec

@[expose] public section

noncomputable section

namespace Cert.Moe

open Idealize.ShloMosaic

/-- Hidden unit `j` of tile `f`. -/
def pos (f : Fin 4) (j : Fin 768) : Fin 3072 := ⟨768 * f.val + j.val, by have := f.isLt; have := j.isLt; omega⟩

/-- A sum over all hidden units, tile by tile. -/
theorem sum_tiles (g : Fin 3072 → EReal) : ∑ f : Fin 4, ∑ j : Fin 768, g (pos f j) = ∑ p : Fin 3072, g p := by
  rw [← Fintype.sum_prod_type']
  refine Fintype.sum_equiv (finProdFinEquiv (m := 4) (n := 768)) _ _ fun x => congrArg g (Fin.ext ?_)
  show 768 * x.1.val + x.2.val = x.2.val + 768 * x.1.val
  omega

/-- A sum over the thirty-two points, expert by expert. -/
theorem sum_points (g : Fin 32 → EReal) :
    ∑ t : Fin 32, g t = ∑ e : Fin 8, ∑ f : Fin 4, g ⟨4 * e.val + f.val, by have := e.isLt; have := f.isLt; omega⟩ := by
  rw [← Fintype.sum_prod_type']
  refine (Fintype.sum_equiv (finProdFinEquiv (m := 8) (n := 4)) _ _ fun x => congrArg g (Fin.ext ?_)).symm
  show 4 * x.1.val + x.2.val = x.2.val + 4 * x.1.val
  omega

/-- A product with a real that is not negative distributes over a sum of two. -/
theorem add_mul_real (x y : EReal) {c : ℝ} (hc : 0 ≤ c) : (x + y) * (c : EReal) = x * c + y * c :=
  EReal.right_distrib_of_nonneg_of_ne_top (EReal.coe_nonneg.mpr hc) (EReal.coe_ne_top c) x y

/-- And over a finite sum. -/
theorem sum_mul_real {ι : Type} (s : Finset ι) (g : ι → EReal) {c : ℝ} (hc : 0 ≤ c) : (∑ i ∈ s, g i) * (c : EReal) = ∑ i ∈ s, g i * c := by
  classical
  induction s using Finset.induction_on with
  | empty => simp
  | insert a s ha ih => rw [Finset.sum_insert ha, Finset.sum_insert ha, add_mul_real _ _ hc, ih]

/-- A sum over the experts of terms that vanish at weight zero has two terms. -/
theorem sum_weight (L : Fin 8 → EReal) {a b : Fin 8} (hne : b ≠ a) (T : Fin 8 → EReal → EReal) (h0 : ∀ e, T e 0 = 0) :
    ∑ e, T e (weight L a b e) = T a (gate (L a) (L b)) + T b (1 - gate (L a) (L b)) := by
  have wa : weight L a b a = gate (L a) (L b) := by simp [weight, hne.symm]
  have wb : weight L a b b = 1 - gate (L a) (L b) := by simp [weight, hne]
  rw [Finset.sum_eq_add a b hne.symm (fun e _ he => by simp [weight, he.1, he.2, h0])
    (fun h => absurd (Finset.mem_univ a) h) (fun h => absurd (Finset.mem_univ b) h), wa, wb]

/-- One expert's part, its weight taken out. -/
theorem expert_part (B : EReal) (G C : Fin 3072 → EReal) {w : ℝ} (hw : 0 ≤ w) :
    (w : EReal) * B + ∑ p, G p * (w : EReal) * C p = (∑ p, G p * C p + B) * (w : EReal) := by
  rw [add_mul_real _ _ hw, sum_mul_real _ _ hw, add_comm, mul_comm (w : EReal) B]
  congr 1
  exact Finset.sum_congr rfl fun p _ => mul_right_comm _ _ _

/-- THE MIX: the biases by all weights plus all tiles is the gated sum of the two chosen experts. -/
theorem mix_eq (L : Fin 8 → EReal) {a b : Fin 8} (hL : ∀ e, IsReal (L e)) (hne : b ≠ a) (B : Fin 8 → EReal) (G C : Fin 8 → Fin 3072 → EReal) :
    ∑ e, weight L a b e * B e + ∑ e, ∑ p, G e p * weight L a b e * C e p
      = (∑ p, G a p * C a p + B a) * gate (L a) (L b) + (∑ p, G b p * C b p + B b) * (1 - gate (L a) (L b)) := by
  obtain ⟨u, hu⟩ := hL a
  obtain ⟨v, hv⟩ := hL b
  obtain ⟨g, hg, eg⟩ := gate_nonneg u v
  obtain ⟨g', hg', eg'⟩ := gate_rest_nonneg u v
  rw [← Finset.sum_add_distrib, sum_weight L hne (fun e w => w * B e + ∑ p, G e p * w * C e p) (fun e => by simp), hu, hv, eg', eg,
    expert_part _ _ _ hg, expert_part _ _ _ hg']

/-- Row `n` among all rows is row `q` of batch `p`. -/
def IsRow (p : Fin 2) (q : Fin 2048) (n : Fin 4096) : Prop := n.val = p.val * 2048 + q.val

/-- Its batch. -/
theorem IsRow.batch {p : Fin 2} {q : Fin 2048} {n : Fin 4096} (h : IsRow p q n) (h' : n.val / 2048 < 2) : (⟨n.val / 2048, h'⟩ : Fin 2) = p :=
  Fin.ext (by unfold IsRow at h; have := q.isLt; dsimp only; omega)

/-- Its place in the batch. -/
theorem IsRow.place {p : Fin 2} {q : Fin 2048} {n : Fin 4096} (h : IsRow p q n) (h' : n.val % 2048 < 2048) : (⟨n.val % 2048, h'⟩ : Fin 2048) = q :=
  Fin.ext (by unfold IsRow at h; have := q.isLt; dsimp only; omega)

/-- Its place among all. -/
theorem IsRow.whole {p : Fin 2} {q : Fin 2048} {n : Fin 4096} (h : IsRow p q n) (h' : p.val * 2048 + q.val < 4096) :
    (⟨p.val * 2048 + q.val, h'⟩ : Fin 4096) = n := Fin.ext h.symm

/-- Every row of every batch is a row among all. -/
theorem exists_row (p : Fin 2) (q : Fin 2048) : ∃ n, IsRow p q n :=
  ⟨⟨p.val * 2048 + q.val, by have := p.isLt; have := q.isLt; omega⟩, rfl⟩

/-- One expert's output at one place of a row. -/
def expert (h : Fin 768 → EReal) (w1 : Fin 768 → Fin 3072 → EReal) (b1 w2 : Fin 3072 → EReal) (b2 : EReal) : EReal :=
  ∑ p, act (unit h (fun k => w1 k p) (b1 p)) * w2 p + b2

/-- The result at place `d` of a row whose normalized form is `h`, whose logits are `L` and whose choices are `a` and `b`. -/
def rowOut (x h : Fin 768 → EReal) (L : Fin 8 → EReal) (w1 : Fin 8 → Fin 768 → Fin 3072 → EReal) (b1 : Fin 8 → Fin 3072 → EReal)
    (w2 : Fin 8 → Fin 3072 → Fin 768 → EReal) (b2 : Fin 8 → Fin 768 → EReal) (a b : Fin 8) (d : Fin 768) : EReal :=
  x d + (expert h (w1 a) (b1 a) (fun p => w2 a p d) (b2 a d) * gate (L a) (L b)
    + expert h (w1 b) (b1 b) (fun p => w2 b p d) (b2 b d) * (1 - gate (L a) (L b)))

end Cert.Moe

end
-- ==== Proof.KernelRead.lean ====
/-
  The idealized kernel's arrays, read at an index on the extended reals.

  First each store's value in terms of what the body read (`rows_apply`, `stored_apply`, `tile_apply`), then the
  blocks the windows cut from the arrays, and at the end the result block after the last point, as one sum over the
  experts and the hidden units (`whole_apply`).
-/
module

public import proofs.«01_k».proof.Proof.KernelRun
public import proofs.«01_k».proof.Proof.Select
public import proofs.«01_k».proof.Proof.Mix
public import Idealize.ShloMosaic.Lib.Pointwise

@[expose] public section

set_option maxRecDepth 16384

noncomputable section

namespace Cert.KernelIdeal.Moe

open Cert.KernelIdeal Cert.KernelIdeal.Gen Cert.Moe
open Idealize.ShloMosaic Idealize.ShloMosaic.TcCoe Idealize.SL.Sem

/-! ## The stores' values -/

section Values

variable (x : Vec Ideal S4096x768 .f32) (g b : Vec Ideal S1x768 .f32) (wr : Vec Ideal S768x8 .f32) (br : Vec Ideal S1x8 .f32)

/-- Row `n`, normalized. -/
abbrev normOf (n : Fin 4096) : Fin 768 → EReal :=
  norm (fun k => x (ix2 n k)) (fun k => g (ix2 0 k)) (fun k => b (ix2 0 k))

/-- Row `n`'s logits. -/
abbrev logitOf (n : Fin 4096) : Fin 8 → EReal :=
  logit (normOf x g b n) (fun k e => wr (ix2 k e)) (fun e => br (ix2 0 e))

/-- The rows before they are stored. -/
theorem normal_apply (n : Fin 4096) (k : Fin 768) : k0_pay3 x g b (ix2 n k) = normOf x g b n k := by
  pointwise [k0_pay3, k0_pay2]
  rfl

/-- The stored rows. -/
theorem rows_apply (n : Fin 4096) (k : Fin 768) : rows x g b (ix2 n k) = normOf x g b n k := by
  pointwise [rows, k0_pay9]
  exact normal_apply x g b n k

/-- The router's logits. -/
theorem logits_apply (n : Fin 4096) (e : Fin 8) : k0_pay4 x g b wr br (ix2 n e) = logitOf x g b wr br n e := by
  pointwise [k0_pay4]
  simp only [normal_apply]
  rfl

variable {a b' : Fin 8}

/-- The greatest logit. -/
theorem maxima_apply (n : Fin 4096) (ha : FirstMax (logitOf x g b wr br n) a) :
    k0_pay5 x g b wr br (ix2 n 0) = logitOf x g b wr br n a := by
  pointwise [k0_pay5]
  simp only [logits_apply]
  rw [lowest_eq]
  exact fold_max ha

/-- The positions that reach the greatest logit, the others past the end. -/
theorem reaching_apply (n : Fin 4096) (ha : FirstMax (logitOf x g b wr br n) a) (e : Fin 8) :
    k0_pay6 x g b wr br (ix2 n e) = if logitOf x g b wr br n a ≤ logitOf x g b wr br n e then BitVec.ofNat 32 e.val else 8#32 := by
  pointwise [k0_pay6]
  rw [logits_apply, maxima_apply x g b wr br n ha]

/-- The mask's value. -/
theorem mask_eq : (Named.named κ "mask" 0xF149F2CA#32 : Ideal .f32) = ⊥ := IdealRules.named_const.ideal_named_scalar _ _ _ _ rfl

/-- A choice by equal expert words is a choice by equal experts. -/
theorem select_word {α : Type} (e e' : Fin 8) (p q : α) :
    Scalar.select (IntOp.cmpi .eq (BitVec.ofNat 32 e.val) (BitVec.ofNat 32 e'.val)) p q = if e = e' then p else q := by
  have h : ∀ e e' : Fin 8, IntOp.cmpi .eq (BitVec.ofNat 32 e.val) (BitVec.ofNat 32 e'.val) = if e = e' then 1#1 else 0#1 := by decide
  rw [h]
  split_ifs <;> rfl

/-- The weights of a row whose two choices are `a` and `b'`. -/
theorem weights_apply (n : Fin 4096) (hL : ∀ e, IsReal (logitOf x g b wr br n e)) (ha : FirstMax (logitOf x g b wr br n) a)
    (hb : FirstMax (without (logitOf x g b wr br n) a) b') (e : Fin 8) :
    weights x g b wr br (ix2 n e) = weight (logitOf x g b wr br n) a b' e := by
  have hne : b' ≠ a := second_ne hL hb
  have hi : ∀ e : Fin 8, iota .tc S4096x8 32 [1] iota_S4096x8_d1_w32 (ix2 n e) = BitVec.ofNat 32 e.val := fun e => by pointwise []
  unfold weights
  pointwise [k0_pay7]
  simp only [reaching_apply x g b wr br n ha, fold_position ha, maxima_apply x g b wr br n ha, logits_apply, hi, select_word, mask_eq, lowest_eq]
  have hw : (fun e => if e = a then (⊥ : EReal) else logitOf x g b wr br n e) = without (logitOf x g b wr br n) a := rfl
  have hm : (Finset.univ : Finset (Fin 8)).fold max ⊥ (fun e => if e = a then (⊥ : EReal) else logitOf x g b wr br n e)
      = logitOf x g b wr br n b' := by
    rw [hw, fold_max hb]; exact if_neg hne
  have hp := fold_position hb
  rw [show without (logitOf x g b wr br n) a b' = logitOf x g b wr br n b' from if_neg hne] at hp
  simp only [hm]
  rw [show (Finset.univ : Finset (Fin 8)).fold IntOp.minsi 2147483647#32 (fun e => if logitOf x g b wr br n b' ≤ (if e = a then (⊥ : EReal) else logitOf x g b wr br n e) then BitVec.ofNat 32 e.val else 8#32) = BitVec.ofNat 32 b'.val from hp]
  simp only [select_word]
  rfl

/-- The stored weights are the weights. -/
theorem stored_apply (n : Fin 4096) (e : Fin 8) : stored x g b wr br (ix2 n e) = weights x g b wr br (ix2 n e) := by
  unfold stored weights
  pointwise [k0_pay8]

/-- The initialized block: the row and the second biases by their weights. -/
theorem initial_apply (b2 : Vec Ideal S8x768 .f32) (n : Fin 4096) (d : Fin 768) :
    initial x g b wr br b2 (ix2 n d) = x (ix2 n d) + ∑ e, weights x g b wr br (ix2 n e) * b2 (ix2 e d) := by
  pointwise [initial, k0_pay10, k0_pay2]

end Values

/-- One point's addition, at an index. -/
theorem tile_apply (i : grid0.Coords) (e : Fin 8) (he : (i 0).val = e.val) (h : Vec Ideal S4096x768 .bf16) (w : Vec Ideal S4096x8 .f32)
    (w1 : Vec Ideal S1x768x768 .bf16) (b1 : Vec Ideal S1x1x768 .f32) (w2 : Vec Ideal S1x768x768 .bf16) (o : Vec Ideal S4096x768 .f32)
    (n : Fin 4096) (d : Fin 768) :
    tile i h w w1 b1 w2 o (ix2 n d) = o (ix2 n d)
      + ∑ j : Fin 768, act (unit (fun k => h (ix2 n k)) (fun k => w1 (ix3 0 k j)) (b1 (ix3 0 0 j))) * w (ix2 n e) * w2 (ix3 0 j d) := by
  pointwise [tile, k0_pay1, k0_pay11, k0_pay12]
  have hs : ∑ y : Fin 8, Scalar.select (IntOp.cmpi .eq (BitVec.ofNat 32 y.val) (BitVec.ofNat 32 (i 0).val)) (w (ix2 n y)) (0 : EReal) = w (ix2 n e) := by
    rw [he]
    simp only [select_word]
    rw [Finset.sum_ite_eq' Finset.univ e]
    exact if_pos (Finset.mem_univ e)
  simp only [hs]
  rfl

/-! ## The blocks the windows cut -/

section Blocks

variable (m : (ℓ : Loc nD τ sig) → Buf (Elt Ideal) ℓ) (c : Dev nD)
variable (t : Fin cfg0.N) (e : Fin 8) (f : Fin 4) (ht : t.val = 4 * e.val + f.val)
include ht

/-- A point is its expert and its tile. -/
theorem quot_eq : t.val / 4 = e.val ∧ t.val % 4 = f.val := by
  have := e.isLt; have := f.isLt; constructor <;> omega

/-- The tile of the first layer's matrix. -/
theorem block5 (k j : Fin 768) : (iblk m c 5 t : Vec Ideal S1x768x768 .bf16) (ix3 0 k j) = V m c main_v1 (ix3 e k (pos f j)) := by
  obtain ⟨q, r⟩ := quot_eq t e f ht
  have hi := index5 t
  unfold iblk
  rw [View.read_apply]
  show V m c main_v1 _ = V m c main_v1 _
  congr 1
  funext a
  apply Fin.ext
  match a with
  | ⟨0, _⟩ => show win0_5.index t 0 * 1 + 1 * 0 = e.val; rw [hi]; show t.val / 4 * 1 + 1 * 0 = _; omega
  | ⟨1, _⟩ => show win0_5.index t 1 * 768 + 1 * k.val = k.val; rw [hi]; show 0 * 768 + 1 * k.val = _; omega
  | ⟨2, _⟩ => show win0_5.index t 2 * 768 + 1 * j.val = 768 * f.val + j.val; rw [hi]; show t.val % 4 * 768 + 1 * j.val = _; omega

/-- The tile of the first layer's offset. -/
theorem block6 (j : Fin 768) : (iblk m c 6 t : Vec Ideal S1x1x768 .f32) (ix3 0 0 j) = V m c main_v6 (ix3 e 0 (pos f j)) := by
  obtain ⟨q, r⟩ := quot_eq t e f ht
  have hi := index6 t
  unfold iblk
  rw [View.read_apply]
  show V m c main_v6 _ = V m c main_v6 _
  congr 1
  funext a
  apply Fin.ext
  match a with
  | ⟨0, _⟩ => show win0_6.index t 0 * 1 + 1 * 0 = e.val; rw [hi]; show t.val / 4 * 1 + 1 * 0 = _; omega
  | ⟨1, _⟩ => show win0_6.index t 1 * 1 + 1 * 0 = 0; rw [hi]; rfl
  | ⟨2, _⟩ => show win0_6.index t 2 * 768 + 1 * j.val = 768 * f.val + j.val; rw [hi]; show t.val % 4 * 768 + 1 * j.val = _; omega

/-- The tile of the second layer's matrix. -/
theorem block7 (j d : Fin 768) : (iblk m c 7 t : Vec Ideal S1x768x768 .bf16) (ix3 0 j d) = V m c main_v2 (ix3 e (pos f j) d) := by
  obtain ⟨q, r⟩ := quot_eq t e f ht
  have hi := index7 t
  unfold iblk
  rw [View.read_apply]
  show V m c main_v2 _ = V m c main_v2 _
  congr 1
  funext a
  apply Fin.ext
  match a with
  | ⟨0, _⟩ => show win0_7.index t 0 * 1 + 1 * 0 = e.val; rw [hi]; show t.val / 4 * 1 + 1 * 0 = _; omega
  | ⟨1, _⟩ => show win0_7.index t 1 * 768 + 1 * j.val = 768 * f.val + j.val; rw [hi]; show t.val % 4 * 768 + 1 * j.val = _; omega
  | ⟨2, _⟩ => show win0_7.index t 2 * 768 + 1 * d.val = d.val; rw [hi]; show 0 * 768 + 1 * d.val = _; omega

end Blocks

end Cert.KernelIdeal.Moe

end
-- ==== Proof.KernelValue.lean ====
/-
  The idealized kernel's result, in the mathematics of one row: the fold over the thirty-two points is a sum over the
  experts and the hidden units, and that sum is the gated sum of the two chosen experts.
-/
module

public import proofs.«01_k».proof.Proof.KernelRead

@[expose] public section

set_option maxRecDepth 16384

noncomputable section

namespace Cert.KernelIdeal.Moe

open Cert.KernelIdeal Cert.KernelIdeal.Gen Cert.Moe
open Idealize.ShloMosaic Idealize.ShloMosaic.TcCoe Idealize.SL.Sem

variable (m : (ℓ : Loc nD τ sig) → Buf (Elt Ideal) ℓ) (c : Dev nD)

/-- The rows, as the region finds them. -/
def xV : Vec Ideal S4096x768 .f32 := V m c main_v0
/-- The normalization's scale. -/
def gV : Vec Ideal S1x768 .f32 := V m c main_v3
/-- The normalization's offset. -/
def bV : Vec Ideal S1x768 .f32 := V m c main_v4
/-- The router's matrix. -/
def wrV : Vec Ideal S768x8 .f32 := V m c main_arg3
/-- The router's offset. -/
def brV : Vec Ideal S1x8 .f32 := V m c main_v5
/-- The first layers. -/
def w1V : Vec Ideal S8x768x3072 .bf16 := V m c main_v1
/-- Their offsets. -/
def b1V : Vec Ideal S8x1x3072 .f32 := V m c main_v6
/-- The second layers. -/
def w2V : Vec Ideal S8x3072x768 .bf16 := V m c main_v2
/-- Their offsets. -/
def b2V : Vec Ideal S8x768 .f32 := V m c main_arg8

/-- The stored rows, of those arrays. -/
theorem rowsOf_eq : rowsOf m c = rows (xV m c) (gV m c) (bV m c) := rfl

/-- The stored weights, of those arrays. -/
theorem storedOf_eq : storedOf m c = stored (xV m c) (gV m c) (bV m c) (wrV m c) (brV m c) := rfl

/-- The initialized block, of those arrays. -/
theorem initialOf_eq : initialOf m c = initial (xV m c) (gV m c) (bV m c) (wrV m c) (brV m c) (b2V m c) := rfl

section

variable (t : Fin cfg0.N) (e : Fin 8) (f : Fin 4) (ht : t.val = 4 * e.val + f.val)
include ht

/-- The first layer's tile, of those arrays. -/
theorem tile5 (k j : Fin 768) : (iblk m c 5 t : Vec Ideal S1x768x768 .bf16) (ix3 0 k j) = w1V m c (ix3 e k (pos f j)) := block5 m c t e f ht k j

/-- Its offset's tile. -/
theorem tile6 (j : Fin 768) : (iblk m c 6 t : Vec Ideal S1x1x768 .f32) (ix3 0 0 j) = b1V m c (ix3 e 0 (pos f j)) := block6 m c t e f ht j

/-- The second layer's tile. -/
theorem tile7 (j d : Fin 768) : (iblk m c 7 t : Vec Ideal S1x768x768 .bf16) (ix3 0 j d) = w2V m c (ix3 e (pos f j) d) := block7 m c t e f ht j d

end

/-! ## In the launch's arguments -/

/-- The rows as one list, at a row. -/
theorem reshaped_apply (x : Vec Ideal S2x2048x768 .f32) (n : Fin 4096) (k : Fin 768) (p : Fin 2) (q : Fin 2048) (h : IsRow p q n) :
    (shapeCast S4096x768 x shapeCasts_S2x2048x768_S4096x768 : Vec Ideal S4096x768 .f32) (ix2 n k) = x (ix3 p q k) := by
  pointwise []
  rw [h.batch, h.place]

/-- The list back in batches, at a row. -/
theorem returned_apply (w : Vec Ideal S4096x768 .f32) (n : Fin 4096) (k : Fin 768) (p : Fin 2) (q : Fin 2048) (h : IsRow p q n) :
    (shapeCast S2x2048x768 w shapeCasts_S4096x768_S2x2048x768 : Vec Ideal S2x2048x768 .f32) (ix3 p q k) = w (ix2 n k) := by
  pointwise []
  rw [h.whole]

/-- The rows, in the argument. -/
theorem x_apply (n : Fin 4096) (k : Fin 768) (p : Fin 2) (q : Fin 2048) (h : IsRow p q n) :
    xV m c (ix2 n k) = (m ((c : Thread nD τ).loc main_arg0) : Vec Ideal S2x2048x768 .f32) (ix3 p q k) := by
  unfold xV
  rw [V_v0]
  exact reshaped_apply _ n k p q h

/-- The scale, in the argument. -/
theorem g_apply (k : Fin 768) : gV m c (ix2 0 k) = (m ((c : Thread nD τ).loc main_arg1) : Vec Ideal S768 .f32) (ix1 k) := by
  unfold gV
  rw [V_v3]
  generalize (m ((c : Thread nD τ).loc main_arg1) : Vec Ideal S768 .f32) = x
  pointwise []

/-- The offset, in the argument. -/
theorem b_apply (k : Fin 768) : bV m c (ix2 0 k) = (m ((c : Thread nD τ).loc main_arg2) : Vec Ideal S768 .f32) (ix1 k) := by
  unfold bV
  rw [V_v4]
  generalize (m ((c : Thread nD τ).loc main_arg2) : Vec Ideal S768 .f32) = x
  pointwise []

/-- The router's offset, in the argument. -/
theorem br_apply (e : Fin 8) : brV m c (ix2 0 e) = (m ((c : Thread nD τ).loc main_arg4) : Vec Ideal S8 .f32) (ix1 e) := by
  unfold brV
  rw [V_v5]
  generalize (m ((c : Thread nD τ).loc main_arg4) : Vec Ideal S8 .f32) = x
  pointwise []

/-- The first offsets, in the argument. -/
theorem b1_apply (e : Fin 8) (p : Fin 3072) : b1V m c (ix3 e 0 p) = (m ((c : Thread nD τ).loc main_arg6) : Vec Ideal S8x3072 .f32) (ix2 e p) := by
  unfold b1V
  rw [V_v6]
  generalize (m ((c : Thread nD τ).loc main_arg6) : Vec Ideal S8x3072 .f32) = x
  pointwise []

/-- The first layers, in the argument. -/
theorem w1_apply (e : Fin 8) (k : Fin 768) (p : Fin 3072) :
    w1V m c (ix3 e k p) = (m ((c : Thread nD τ).loc main_arg5) : Vec Ideal S8x768x3072 .f32) (ix3 e k p) := by
  unfold w1V
  rw [V_v1]; rfl

/-- The second layers, in the argument. -/
theorem w2_apply (e : Fin 8) (p : Fin 3072) (k : Fin 768) :
    w2V m c (ix3 e p k) = (m ((c : Thread nD τ).loc main_arg7) : Vec Ideal S8x3072x768 .f32) (ix3 e p k) := by
  unfold w2V
  rw [V_v2]; rfl

/-- The router's matrix is the argument. -/
theorem wrV_eq : wrV m c = m ((c : Thread nD τ).loc main_arg3) := Gen.V_main_arg3 m c

/-- The second offsets are the argument. -/
theorem b2V_eq : b2V m c = m ((c : Thread nD τ).loc main_arg8) := Gen.V_main_arg8 m c

attribute [irreducible] xV gV bV wrV brV w1V b1V w2V b2V

/-! ## One row -/

/-- Row `n` of the result, normalized, from the arrays the region finds. -/
abbrev hAt (n : Fin 4096) : Fin 768 → EReal := normOf (xV m c) (gV m c) (bV m c) n

/-- Its logits. -/
abbrev lAt (n : Fin 4096) : Fin 8 → EReal :=
  logitOf (xV m c) (gV m c) (bV m c) (wrV m c) (brV m c) n

/-- Its weight at expert `e`. -/
abbrev wAt (n : Fin 4096) (e : Fin 8) : EReal :=
  weights (xV m c) (gV m c) (bV m c) (wrV m c) (brV m c) (ix2 n e)

/-- What hidden unit `p` of expert `e` adds at place `d` of row `n`. -/
def part (n : Fin 4096) (d : Fin 768) (e : Fin 8) (p : Fin 3072) : EReal :=
  act (unit (hAt m c n) (fun k => w1V m c (ix3 e k p)) (b1V m c (ix3 e 0 p)))
    * wAt m c n e * w2V m c (ix3 e p d)

/-- The expert of a point. -/
def ptE (t : ℕ) (h : t < cfg0.N) : Fin 8 := ⟨t / 4, by have hN : cfg0.N = 32 := N_0; omega⟩

/-- The tile of a point. -/
def ptF (t : ℕ) : Fin 4 := ⟨t % 4, Nat.mod_lt _ (by decide)⟩

/-- A point has its expert. -/
theorem ptE_mul (e : Fin 8) (f : Fin 4) (h : 4 * e.val + f.val < cfg0.N) : ptE (4 * e.val + f.val) h = e :=
  Fin.ext (show (4 * e.val + f.val) / 4 = e.val by have := f.isLt; omega)

/-- And its tile. -/
theorem ptF_mul (e : Fin 8) (f : Fin 4) : ptF (4 * e.val + f.val) = f :=
  Fin.ext (show (4 * e.val + f.val) % 4 = f.val by have := f.isLt; omega)

/-- A tile's addition, when what it reads is known. -/
theorem tile_of (i : grid0.Coords) (e : Fin 8) (he : (i 0).val = e.val) (h : Vec Ideal S4096x768 .bf16) (w : Vec Ideal S4096x8 .f32)
    (w1 : Vec Ideal S1x768x768 .bf16) (b1 : Vec Ideal S1x1x768 .f32) (w2 : Vec Ideal S1x768x768 .bf16) (o : Vec Ideal S4096x768 .f32)
    (n : Fin 4096) (d : Fin 768) (H : Fin 768 → EReal) (hH : ∀ k, h (ix2 n k) = H k) (W : EReal) (hW : w (ix2 n e) = W)
    (A : Fin 768 → Fin 768 → EReal) (hA : ∀ k j, w1 (ix3 0 k j) = A k j) (B : Fin 768 → EReal) (hB : ∀ j, b1 (ix3 0 0 j) = B j)
    (C : Fin 768 → EReal) (hC : ∀ j, w2 (ix3 0 j d) = C j) :
    tile i h w w1 b1 w2 o (ix2 n d) = o (ix2 n d) + ∑ j, act (unit H (fun k => A k j) (B j)) * W * C j := by
  rw [tile_apply i e he]
  simp only [hH, hW, hA, hB, hC]

/-- A point adds its tile's hidden units. -/
theorem addTile_apply (t : ℕ) (h : t < cfg0.N) (o : Vec Ideal S4096x768 .f32) (n : Fin 4096) (d : Fin 768) :
    addTile m c ⟨t, h⟩ o (ix2 n d) = o (ix2 n d) + ∑ j, part m c n d (ptE t h) (pos (ptF t) j) := by
  have ht : (⟨t, h⟩ : Fin cfg0.N).val = 4 * (ptE t h).val + (ptF t).val := (Nat.div_add_mod t 4).symm
  unfold addTile
  rw [rowsOf_eq, storedOf_eq]
  generalize h5 : (iblk m c 5 ⟨t, h⟩ : Vec Ideal S1x768x768 .bf16) = u5
  generalize h6 : (iblk m c 6 ⟨t, h⟩ : Vec Ideal S1x1x768 .f32) = u6
  generalize h7 : (iblk m c 7 ⟨t, h⟩ : Vec Ideal S1x768x768 .bf16) = u7
  exact tile_of (grid0.coords ⟨t, h⟩) (ptE t h) (coords_eq ⟨t, h⟩).1 _ _ u5 u6 u7 o n d (hAt m c n) (fun k => rows_apply _ _ _ n k)
    (wAt m c n (ptE t h)) (stored_apply _ _ _ _ _ n _) (fun k j => w1V m c (ix3 (ptE t h) k (pos (ptF t) j))) (fun k j => h5 ▸ tile5 m c ⟨t, h⟩ _ _ ht k j)
    (fun j => b1V m c (ix3 (ptE t h) 0 (pos (ptF t) j))) (fun j => h6 ▸ tile6 m c ⟨t, h⟩ _ _ ht j)
    (fun j => w2V m c (ix3 (ptE t h) (pos (ptF t) j) d)) (fun j => h7 ▸ tile7 m c ⟨t, h⟩ _ _ ht j d)

/-- The block after point `t`: the initialized block and the tiles of all points so far. -/
theorem block_apply (n : Fin 4096) (d : Fin 768) : ∀ (t : ℕ) (h : t < cfg0.N),
    block m c t h (ix2 n d) = initialOf m c (ix2 n d)
      + ∑ s : Fin (t + 1), ∑ j, part m c n d (ptE s.val (lt_of_lt_of_le s.isLt h)) (pos (ptF s.val) j)
  | 0, h => by
    show addTile m c ⟨0, h⟩ (initialOf m c) (ix2 n d) = _
    rw [addTile_apply, Fin.sum_univ_one]
    rfl
  | t + 1, h => by
    show addTile m c ⟨t + 1, h⟩ (block m c t (Nat.lt_of_succ_lt h)) (ix2 n d) = _
    rw [addTile_apply, block_apply n d t (Nat.lt_of_succ_lt h), Fin.sum_univ_castSucc (n := t + 1), add_assoc]
    rfl

/-- The whole result block: the row, the biases by their weights, and every hidden unit of every expert. -/
theorem whole_apply (n : Fin 4096) (d : Fin 768) :
    whole m c (ix2 n d) = xV m c (ix2 n d)
      + (∑ e, wAt m c n e * b2V m c (ix2 e d) + ∑ e, ∑ p, part m c n d e p) := by
  show block m c 31 last_lt (ix2 n d) = _
  rw [block_apply]
  rw [initialOf_eq, initial_apply, add_assoc]
  refine congrArg₂ (· + ·) rfl (congrArg₂ (· + ·) rfl ((sum_points _).trans (Finset.sum_congr rfl fun e _ => ?_)))
  rw [← sum_tiles]
  refine Finset.sum_congr rfl fun f _ => Finset.sum_congr rfl fun j _ => ?_
  rw [ptE_mul e f, ptF_mul e f]

/-- The result at place `d` of a row with real logits and choices `a` and `b`. -/
theorem whole_row (n : Fin 4096) (d : Fin 768) {a b : Fin 8} (hL : ∀ e, IsReal (lAt m c n e)) (ha : FirstMax (lAt m c n) a)
    (hb : FirstMax (without (lAt m c n) a) b) :
    whole m c (ix2 n d) = rowOut (fun k => xV m c (ix2 n k)) (hAt m c n) (lAt m c n)
      (fun e k p => w1V m c (ix3 e k p)) (fun e p => b1V m c (ix3 e 0 p))
      (fun e p k => w2V m c (ix3 e p k)) (fun e k => b2V m c (ix2 e k)) a b d := by
  have hw : ∀ e, wAt m c n e = weight (lAt m c n) a b e := fun e => weights_apply _ _ _ _ _ n hL ha hb e
  rw [whole_apply]
  unfold part
  simp only [hw]
  rw [mix_eq (lAt m c n) hL (second_ne hL hb) (fun e => b2V m c (ix2 e d))
    (fun e p => act (unit (hAt m c n) (fun k => w1V m c (ix3 e k p)) (b1V m c (ix3 e 0 p))))
    (fun e p => w2V m c (ix3 e p d))]
  rfl

/-- THE KERNEL'S RESULT at `(p, q, d)`, in the launch's arguments. -/
theorem result_apply (p : Fin 2) (q : Fin 2048) (d : Fin 768)
    (x : Vec Ideal S2x2048x768 .f32) (hx : m ((c : Thread nD τ).loc main_arg0) = x) (g : Vec Ideal S768 .f32) (hg : m ((c : Thread nD τ).loc main_arg1) = g)
    (b : Vec Ideal S768 .f32) (hb : m ((c : Thread nD τ).loc main_arg2) = b) (wr : Vec Ideal S768x8 .f32) (hwr : m ((c : Thread nD τ).loc main_arg3) = wr)
    (br : Vec Ideal S8 .f32) (hbr : m ((c : Thread nD τ).loc main_arg4) = br) (w1 : Vec Ideal S8x768x3072 .f32) (hw1 : m ((c : Thread nD τ).loc main_arg5) = w1)
    (b1 : Vec Ideal S8x3072 .f32) (hb1 : m ((c : Thread nD τ).loc main_arg6) = b1) (w2 : Vec Ideal S8x3072x768 .f32) (hw2 : m ((c : Thread nD τ).loc main_arg7) = w2)
    (b2 : Vec Ideal S8x768 .f32) (hb2 : m ((c : Thread nD τ).loc main_arg8) = b2)
    (h : Fin 768 → EReal) (hh : h = norm (fun k => x (ix3 p q k)) (fun k => g (ix1 k)) (fun k => b (ix1 k)))
    (L : Fin 8 → EReal) (hL : L = logit h (fun k e => wr (ix2 k e)) (fun e => br (ix1 e)))
    {a a' : Fin 8} (hR : ∀ e, IsReal (L e)) (ha : FirstMax L a) (ha' : FirstMax (without L a) a') :
    (shapeCast S2x2048x768 (whole m c) shapeCasts_S4096x768_S2x2048x768 : Vec Ideal S2x2048x768 .f32) (ix3 p q d)
      = rowOut (fun k => x (ix3 p q k)) h L (fun e k j => w1 (ix3 e k j)) (fun e j => b1 (ix2 e j)) (fun e j k => w2 (ix3 e j k))
        (fun e k => b2 (ix2 e k)) a a' d := by
  obtain ⟨n, hn⟩ : ∃ n, IsRow p q n := exists_row p q
  have ex : ∀ k, xV m c (ix2 n k) = x (ix3 p q k) := fun k => (x_apply m c n k p q hn).trans (by rw [hx])
  have eg : ∀ k, gV m c (ix2 0 k) = g (ix1 k) := fun k => (g_apply m c k).trans (by rw [hg])
  have eb : ∀ k, bV m c (ix2 0 k) = b (ix1 k) := fun k => (b_apply m c k).trans (by rw [hb])
  have er : wrV m c = wr := (wrV_eq m c).trans hwr
  have ebr : ∀ e, brV m c (ix2 0 e) = br (ix1 e) := fun e => (br_apply m c e).trans (by rw [hbr])
  have e1 : ∀ e k j, w1V m c (ix3 e k j) = w1 (ix3 e k j) := fun e k j => (w1_apply m c e k j).trans (by rw [hw1])
  have eb1 : ∀ e j, b1V m c (ix3 e 0 j) = b1 (ix2 e j) := fun e j => (b1_apply m c e j).trans (by rw [hb1])
  have e2 : ∀ e j k, w2V m c (ix3 e j k) = w2 (ix3 e j k) := fun e j k => (w2_apply m c e j k).trans (by rw [hw2])
  have eb2 : b2V m c = b2 := (b2V_eq m c).trans hb2
  have eh : hAt m c n = h := by
    rw [hh]
    unfold hAt normOf
    simp only [ex, eg, eb]
  have eL : lAt m c n = L := by
    rw [hL, ← eh]
    unfold lAt logitOf
    simp only [ebr, er]
  have key := whole_row m c n d (a := a) (b := a') (by rw [eL]; exact hR) (by rw [eL]; exact ha) (by rw [eL]; exact ha')
  rw [eh, eL] at key
  simp only [ex, eb1, e1, e2, eb2] at key
  exact (returned_apply _ n d p q hn).trans key

end Cert.KernelIdeal.Moe

end
-- ==== Proof.RefStages.lean ====
/-
  The reference's composed term, cut into named stages, at any float type `F`.

  `Value.res_main_v66` is one term of the nine arguments. Here its repeated parts get names — the normalized rows, the
  router's logits, the two gates, the experts' outputs, the selection's index and the gathered outputs — so that
  each can be read at an index on its own; `result_eq` says the stages compose to the term.
-/
module

public import proofs.«01_k».proof.Proof.Gen.ReferenceIdeal.Run

@[expose] public section

set_option maxRecDepth 16384

noncomputable section

namespace Cert.ReferenceIdeal.Moe

open Cert.ReferenceIdeal Cert.ReferenceIdeal.Gen
open Idealize.ShloMosaic Idealize.ShloMosaic.TcCoe Idealize.SL.Sem

variable {F : FTy → Type} [FloatOps F]

/-- The row means, broadcast along a unit axis. -/
def means (x : FVec F S2x2048x768 .f32) : FVec F S2x2048x1 .f32 :=
  Host.divf (broadcastInDim S2x2048x1 ![0, 1] bcast_S2x2048_S2x2048x1_0_1 (Host.reduceAdd x (constant S_ .f32 0x00000000#32) reducesTo_S2x2048x768_S2x2048_d2 h_S_))
    (broadcastInDim S2x2048x1 ![] bcast_S_S2x2048x1 (constant S_ .f32 0x44400000#32))

/-- The rows less their means. -/
def centered (x : FVec F S2x2048x768 .f32) : FVec F S2x2048x768 .f32 :=
  subf x (broadcastInDim S2x2048x768 ![0, 1, 2] bcast_S2x2048x1_S2x2048x768_0_1_2 (means x))

/-- The rows' standard deviations: the root of the mean square plus the small constant. -/
def deviations (x : FVec F S2x2048x768 .f32) : FVec F S2x2048x1 .f32 :=
  Host.sqrt (addf (Host.divf (broadcastInDim S2x2048x1 ![0, 1] bcast_S2x2048_S2x2048x1_0_1 (Host.reduceAdd (mulf (centered x) (centered x)) (constant S_ .f32 0x00000000#32) reducesTo_S2x2048x768_S2x2048_d2 h_S_))
    (broadcastInDim S2x2048x1 ![] bcast_S_S2x2048x1 (constant S_ .f32 0x44400000#32))) (broadcastInDim S2x2048x1 ![] bcast_S_S2x2048x1 (constant S_ .f32 0x3727C5AC#32)))

/-- The normalized rows. -/
def normal (x : FVec F S2x2048x768 .f32) (g b : FVec F S768 .f32) : FVec F S2x2048x768 .f32 :=
  addf (mulf (Host.divf (centered x) (broadcastInDim S2x2048x768 ![0, 1, 2] bcast_S2x2048x1_S2x2048x768_0_1_2 (deviations x)))
    (broadcastInDim S2x2048x768 ![0, 1, 2] bcast_S1x1x768_S2x2048x768_0_1_2 (broadcastInDim S1x1x768 ![2] bcast_S768_S1x1x768_2 g)))
    (broadcastInDim S2x2048x768 ![0, 1, 2] bcast_S1x1x768_S2x2048x768_0_1_2 (broadcastInDim S1x1x768 ![2] bcast_S768_S1x1x768_2 b))

/-- The router's logits of normalized rows. -/
def logits (h : FVec F S2x2048x768 .f32) (wr : FVec F S768x8 .f32) (br : FVec F S8 .f32) : FVec F S2x2048x8 .f32 :=
  addf (Host.dotGeneral dot_S2x2048x768_S768x8_S2x2048x8_2_0_01_1_n_n none h wr)
    (broadcastInDim S2x2048x8 ![0, 1, 2] bcast_S1x1x8_S2x2048x8_0_1_2 (broadcastInDim S1x1x8 ![2] bcast_S8_S1x1x8_2 br))

/-- The two largest logits of a row and their positions. -/
def top (l : FVec F S2x2048x8 .f32) : FVec F S2x2048x2 .f32 × IVec S2x2048x2 32 :=
  Host.topK S2x2048x2 2 (FloatOps.cmpfTotal .gt) l sliceFits_S2x2048x8_S2x2048x2

/-- The exponentials of the two logits less the larger. -/
def exps (v : FVec F S2x2048x2 .f32) : FVec F S2x2048x2 .f32 :=
  Host.exp (subf v (broadcastInDim S2x2048x2 ![0, 1, 2] bcast_S2x2048x1_S2x2048x2_0_1_2 (broadcastInDim S2x2048x1 ![0, 1] bcast_S2x2048_S2x2048x1_0_1
    (maximumf (broadcastInDim S2x2048 ![] bcast_S_S2x2048 (constant S_ .f32 0xFF800000#32)) (Host.reduce FloatOps.maximumf v (constant S_ .f32 0xFF800000#32) reducesTo_S2x2048x2_S2x2048_d2 h_S_)))))

/-- The gates: the exponentials over their sum. -/
def gates (v : FVec F S2x2048x2 .f32) : FVec F S2x2048x2 .f32 :=
  Host.divf (exps v) (broadcastInDim S2x2048x2 ![0, 1, 2] bcast_S2x2048x1_S2x2048x2_0_1_2 (broadcastInDim S2x2048x1 ![0, 1] bcast_S2x2048_S2x2048x1_0_1
    (Host.reduceAdd (exps v) (constant S_ .f32 0x00000000#32) reducesTo_S2x2048x2_S2x2048_d2 h_S_)))

/-- The first layer of every expert on every row. -/
def hidden (h : FVec F S2x2048x768 .f32) (w1 : FVec F S8x768x3072 .f32) (b1 : FVec F S8x3072 .f32) : FVec F S8x4096x3072 .f32 :=
  addf (transpose S8x4096x3072 [0, 2, 1] (Host.dotGeneral dot_S8x768x3072_S4096x768_S8x3072x4096_1_1_02_0_n_n none w1 (shapeCast _ h shapeCasts_S2x2048x768_S4096x768)) transposes_S8x3072x4096_S8x4096x3072_0_2_1)
    (broadcastInDim S8x4096x3072 ![0, 1, 2] bcast_S8x1x3072_S8x4096x3072_0_1_2 (broadcastInDim S8x1x3072 ![0, 2] bcast_S8x3072_S8x1x3072_0_2 b1))

/-- The activation of the first layer, with the complementary error function. -/
def active (z : FVec F S8x4096x3072 .f32) : FVec F S8x4096x3072 .f32 :=
  mulf (mulf (broadcastInDim S8x4096x3072 ![] bcast_S_S8x4096x3072 (constant S_ .f32 0x3F000000#32)) z)
    (Host.erfc (mulf (Host.negf z) (broadcastInDim S8x4096x3072 ![] bcast_S_S8x4096x3072 (constant S_ .f32 0x3F3504F3#32))))

/-- The second layer of every expert, the row axis in front. -/
def experts (a : FVec F S8x4096x3072 .f32) (w2 : FVec F S8x3072x768 .f32) (b2 : FVec F S8x768 .f32) : FVec F S4096x8x768 .f32 :=
  transpose S4096x8x768 [1, 0, 2] (addf (Host.dotGeneral dot_S8x4096x3072_S8x3072x768_S8x4096x768_2_1_1_2_0_0 none a w2)
    (broadcastInDim S8x4096x768 ![0, 1, 2] bcast_S8x1x768_S8x4096x768_0_1_2 (broadcastInDim S8x1x768 ![0, 2] bcast_S8x768_S8x1x768_0_2 b2))) transposes_S8x4096x768_S4096x8x768_1_0_2

/-- The two positions of a row, a negative one counted from the end. -/
def index (p : IVec S2x2048x2 32) : IVec S4096x2x1 32 :=
  let q : IVec S4096x2x1 32 := broadcastInDim S4096x2x1 ![0, 1] bcast_S4096x2_S4096x2x1_0_1 (shapeCast _ p shapeCasts_S2x2048x2_S4096x2)
  select (cmpi .slt q (broadcastInDim S4096x2x1 ![] bcast_S_S4096x2x1 (constantI S_ 32 0#32))) (addi q (broadcastInDim S4096x2x1 ![] bcast_S_S4096x2x1 (constantI S_ 32 8#32))) q

/-- Whether a position names an expert. -/
def named (q : IVec S4096x2x1 32) : IVec S4096x2 1 :=
  Host.reduce IntOp.andi (andi (cmpi .sge q (broadcastInDim S4096x2x1 ![] bcast_S_S4096x2x1 (constantI S_ 32 0#32)))
    (cmpi .sle q (broadcastInDim S4096x2x1 ![0, 1, 2] bcast_S1x1x1_S4096x2x1_0_1_2 (broadcastInDim S1x1x1 ![2] bcast_S1_S1x1x1_2 (constantI S1 32 7#32))))) (constantI S_ 1 1#1) reducesTo_S4096x2x1_S4096x2_d2 h_S_

/-- The two selected experts' outputs of a row. -/
def taken (o : FVec F S4096x8x768 .f32) (q : IVec S4096x2x1 32) : FVec F S4096x2x768 .f32 :=
  select (broadcastInDim S4096x2x768 ![0, 1] bcast_S4096x2_S4096x2x768_0_1 (named q))
    (Host.gather gather_S4096x8x768_S4096x2x1_S4096x2x768_2_1_0_0_1_2_11768 o q)
    (broadcastInDim S4096x2x768 ![] bcast_S_S4096x2x768 (constant S_ .f32 0x7FC00000#32))

/-- The mix of the selected outputs by the gates. -/
def mix (o : FVec F S4096x2x768 .f32) (g : FVec F S2x2048x2 .f32) : FVec F S4096x768 .f32 :=
  Host.reduceAdd (mulf o (broadcastInDim S4096x2x768 ![0, 1, 2] bcast_S4096x2x1_S4096x2x768_0_1_2 (broadcastInDim S4096x2x1 ![0, 1] bcast_S4096x2_S4096x2x1_0_1 (shapeCast _ g shapeCasts_S2x2048x2_S4096x2))))
    (constant S_ .f32 0x00000000#32) reducesTo_S4096x2x768_S4096x768_d1 h_S_

/-- The result of the nine arguments. -/
def result (x : FVec F S2x2048x768 .f32) (g b : FVec F S768 .f32) (wr : FVec F S768x8 .f32) (br : FVec F S8 .f32)
    (w1 : FVec F S8x768x3072 .f32) (b1 : FVec F S8x3072 .f32) (w2 : FVec F S8x3072x768 .f32) (b2 : FVec F S8x768 .f32) : FVec F S2x2048x768 .f32 :=
  addf x (shapeCast _ (mix (taken (experts (active (hidden (normal x g b) w1 b1)) w2 b2) (index (top (logits (normal x g b) wr br)).2))
    (gates (top (logits (normal x g b) wr br)).1)) shapeCasts_S4096x768_S2x2048x768)

/-- The generated term is the stages' composition. -/
theorem result_eq (m : (ℓ : Loc nD τ sig) → Buf (Elt F) ℓ) (c : Dev nD) :
    Value.res_main_v66 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold Value.res_main_v66
  rfl

end Cert.ReferenceIdeal.Moe

end
-- ==== Proof.RefRead.lean ====
/-
  The reference's stages, read at an index on the extended reals, and its result in the mathematics of one row.
-/
module

public import proofs.«01_k».proof.Proof.RefStages
public import proofs.«01_k».proof.Proof.Select
public import proofs.«01_k».proof.Proof.Mix
public import Idealize.ShloMosaic.Lib.Pointwise

@[expose] public section

set_option maxRecDepth 16384

noncomputable section

namespace Cert.ReferenceIdeal.Moe

open Cert.ReferenceIdeal Cert.ReferenceIdeal.Gen Cert.Moe
open Idealize.ShloMosaic Idealize.ShloMosaic.TcCoe Idealize.SL.Sem

/-! ## Rows and logits -/

/-- The normalized rows. -/
theorem normal_apply (x : FVec Ideal S2x2048x768 .f32) (g b : FVec Ideal S768 .f32) (p : Fin 2) (q : Fin 2048)
    (k : Fin 768) : normal x g b (ix3 p q k) = norm (fun k => x (ix3 p q k)) (fun k => g (ix1 k)) (fun k => b (ix1 k)) k := by
  rw [← norm_eq_div]
  pointwise [normal, deviations, centered, means]
  rfl

/-- The router's logits. -/
theorem logits_apply (h : FVec Ideal S2x2048x768 .f32) (wr : FVec Ideal S768x8 .f32) (br : FVec Ideal S8 .f32) (p : Fin 2) (q : Fin 2048) (e : Fin 8) :
    logits h wr br (ix3 p q e) = logit (fun k => h (ix3 p q k)) (fun k e => wr (ix2 k e)) (fun e => br (ix1 e)) e := by
  pointwise [logits]
  rfl

/-! ## The selection -/

section Top

variable (l : FVec Ideal S2x2048x8 .f32) (p : Fin 2) (q : Fin 2048) {a b : Fin 8}

/-- The compare the selection sorts by. -/
theorem before_eq (L : Fin 8 → EReal) (f : Fin 8 → Ideal .f32) (h : ∀ e, f e = L e) :
    (fun k k' => FloatOps.cmpfTotal (F := Ideal) (φ := .f32) .gt (f k) (f k') == 1#1) = above L := by
  funext k k'
  rw [Ideal.cmpfTotal_def, h, h]
  show (BitVec.ofBool (decide (L k' < L k)) == 1#1) = decide (L k' < L k)
  cases decide (L k' < L k) <;> rfl

/-- The position the selection takes for its `i`-th place. -/
theorem place_eq (L : Fin 8 → EReal) (hl : ∀ e, l (ix3 p q e) = L e) (hR : ∀ e, IsReal (L e)) (ha : FirstMax L a) (hb : FirstMax (without L a) b)
    (j : S2x2048x8.Idx) (hj : ∀ k : Fin 8, j.along 2 k = ix3 p q k) (i : Fin 2) (hi : j 2 = i.castLE (by decide)) :
    sortedFrom (fun k k' : Fin 8 => FloatOps.cmpfTotal (F := Ideal) (φ := .f32) .gt (l (j.along 2 k)) (l (j.along 2 k')) == 1#1) (j 2) = (![a, b] : Fin 2 → Fin 8) i := by
  rw [before_eq L (fun k => l (j.along 2 k)) fun e => by rw [hj, hl], hi]
  exact sorted_two hR ha hb i

/-- A row's index, moved along the last axis. -/
theorem along_eq (j : S2x2048x8.Idx) (h0 : j 0 = p) (h1 : j 1 = q) (k : Fin 8) : j.along 2 k = ix3 p q k := by
  funext x
  match x with
  | ⟨0, _⟩ => exact h0
  | ⟨1, _⟩ => exact h1
  | ⟨2, _⟩ => rfl

/-- The two largest logits and their positions. -/
theorem top_apply (L : Fin 8 → EReal) (hl : ∀ e, l (ix3 p q e) = L e) (hR : ∀ e, IsReal (L e)) (ha : FirstMax L a) (hb : FirstMax (without L a) b) (i : Fin 2) :
    (top l).1 (ix3 p q i) = L ((![a, b] : Fin 2 → Fin 8) i) ∧ (top l).2 (ix3 p q i) = BitVec.ofNat 32 ((![a, b] : Fin 2 → Fin 8) i).val := by
  have key : ∃ j : S2x2048x8.Idx, (∀ k : Fin 8, j.along 2 k = ix3 p q k) ∧ j 2 = i.castLE (by decide)
      ∧ (top l).1 (ix3 p q i) = l (j.along 2 (sortedFrom (fun k k' : Fin 8 => FloatOps.cmpfTotal (F := Ideal) (φ := .f32) .gt (l (j.along 2 k)) (l (j.along 2 k')) == 1#1) (j 2)))
      ∧ (top l).2 (ix3 p q i) = iotaInDim S2x2048x8 32 2 (j.along 2 (sortedFrom (fun k k' : Fin 8 => FloatOps.cmpfTotal (F := Ideal) (φ := .f32) .gt (l (j.along 2 k)) (l (j.along 2 k')) == 1#1) (j 2))) := by
    have fits := sliceFits_S2x2048x8_S2x2048x2
    refine ⟨fun a => ⟨0 + ((ix3 p q i : S2x2048x2.Idx) (a.cast fits.1.symm)).val,
      Nat.lt_of_lt_of_le (Nat.add_lt_add_left (Fin.isLt _) _) (fits.2 a)⟩, fun k => along_eq p q _ (Fin.ext (Nat.zero_add _)) (Fin.ext (Nat.zero_add _)) k,
      Fin.ext (Nat.zero_add _), ?_, ?_⟩
    · unfold top Host.topK Host.sort2
      rfl
    · unfold top Host.topK Host.sort2
      rfl
  obtain ⟨j, hj, hi, e1, e2⟩ := key
  have pe := place_eq l p q L hl hR ha hb j hj i hi
  exact ⟨e1.trans ((congrArg (fun k => l (j.along 2 k)) pe).trans ((congrArg l (hj _)).trans (hl _))),
    e2.trans ((congrArg (fun k => iotaInDim S2x2048x8 32 2 (j.along 2 k)) pe).trans (by rw [hj]; rfl))⟩

end Top

/-! ## The gates -/

/-- The maximum of two, the first the larger. -/
theorem fold_pair (f : Fin 2 → EReal) (h : f 1 ≤ f 0) : (Finset.univ : Finset (Fin 2)).fold max ⊥ f = f 0 :=
  le_antisymm ((Finset.fold_max_le _).mpr ⟨bot_le, fun i _ => by match i with | 0 => exact le_rfl | 1 => exact h⟩)
    ((Finset.le_fold_max _).mpr (.inr ⟨0, Finset.mem_univ _, le_rfl⟩))

/-- The gates of two real logits, the first the larger. -/
theorem gates_apply (v : FVec Ideal S2x2048x2 .f32) (p : Fin 2) (q : Fin 2048) (r s : ℝ) (hr : v (ix3 p q 0) = (r : EReal)) (hs : v (ix3 p q 1) = (s : EReal))
    (h : s ≤ r) : gates v (ix3 p q 0) = gate r s ∧ gates v (ix3 p q 1) = 1 - gate r s := by
  have hm : max (Ideal.ofBits .f32 0xFF800000#32) ((Finset.univ : Finset (Fin 2)).fold max (Ideal.ofBits .f32 0xFF800000#32) fun x => v (ix3 p q x)) = (r : EReal) := by
    rw [lowest_eq, fold_pair _ (by rw [hr, hs]; exact EReal.coe_le_coe_iff.mpr h), hr]
    exact max_eq_right bot_le
  constructor
  · pointwise [gates, exps]
    simp only [hm, Fin.sum_univ_two]
    rw [hr, hs]
    exact softmax_fst r s
  · pointwise [gates, exps]
    simp only [hm, Fin.sum_univ_two]
    rw [hr, hs]
    exact softmax_snd r s

/-! ## The experts and the gathering -/

/-- Every expert's output for a row. -/
theorem experts_apply (h : FVec Ideal S2x2048x768 .f32) (w1 : FVec Ideal S8x768x3072 .f32) (b1 : FVec Ideal S8x3072 .f32) (w2 : FVec Ideal S8x3072x768 .f32)
    (b2 : FVec Ideal S8x768 .f32) (p : Fin 2) (q : Fin 2048) (n : Fin 4096) (hn : IsRow p q n) (e : Fin 8) (d : Fin 768) :
    experts (active (hidden h w1 b1)) w2 b2 (ix3 n e d)
      = expert (fun k => h (ix3 p q k)) (fun k j => w1 (ix3 e k j)) (fun j => b1 (ix2 e j)) (fun j => w2 (ix3 e j d)) (b2 (ix2 e d)) := by
  unfold expert
  simp only [← act_eq_erfc]
  unfold unit
  pointwise [experts, active, hidden]
  simp only [hn.batch, hn.place, mul_comm (w1 _)]

/-- A position that names an expert is not moved. -/
theorem index_apply (w : IVec S2x2048x2 32) (p : Fin 2) (q : Fin 2048) (n : Fin 4096) (hn : IsRow p q n) (k : Fin 2) (e : Fin 8)
    (he : w (ix3 p q k) = BitVec.ofNat 32 e.val) : index w (ix3 n k 0) = BitVec.ofNat 32 e.val := by
  pointwise [index]
  simp only [hn.batch, hn.place, he]
  clear he
  revert e
  decide

/-- Such a position passes the check. -/
theorem named_apply (w : IVec S4096x2x1 32) (n : Fin 4096) (k : Fin 2) (e : Fin 8) (he : w (ix3 n k 0) = BitVec.ofNat 32 e.val) : named w (ix2 n k) = 1#1 := by
  pointwise [named]
  rw [Finset.univ_unique, Finset.fold_singleton]
  show IntOp.andi (IntOp.andi (IntOp.cmpi .sge (w (ix3 n k 0)) 0#32) (IntOp.cmpi .sle (w (ix3 n k 0)) 7#32)) 1#1 = 1#1
  rw [he]
  clear he
  revert e
  decide

/-- The gather takes row `n` of the expert its index names. -/
theorem gather_apply (o : FVec Ideal S4096x8x768 .f32) (w : IVec S4096x2x1 32) (n : Fin 4096) (k : Fin 2) (d : Fin 768) (e : Fin 8)
    (he : w (ix3 n k 0) = BitVec.ofNat 32 e.val) :
    Host.gather gather_S4096x8x768_S4096x2x1_S4096x2x768_2_1_0_0_1_2_11768 o w (ix3 n k d) = o (ix3 n e d) := by
  have hv : ∀ e : Fin 8, min (BitVec.ofNat 32 e.val).toInt.toNat (8 - 1) = e.val := by decide
  unfold Host.gather
  congr 1
  funext x
  refine Fin.ext ?_
  show GatherDims.start _ (ix3 n k d) w x + GatherDims.batchCoord _ (ix3 n k d) x + GatherDims.offCoord _ (ix3 n k d) x = _
  have hx : x = 0 ∨ x = 1 ∨ x = 2 := by
    match x with
    | ⟨0, _⟩ => exact .inl rfl
    | ⟨1, _⟩ => exact .inr (.inl rfl)
    | ⟨2, _⟩ => exact .inr (.inr rfl)
  rcases hx with rfl | rfl | rfl
  · rw [GatherDims.start_batching _ _ _ _ (List.mem_singleton.mpr rfl), GatherDims.offCoord_eq_zero _ _ _ fun h => ((GatherDims.mem_sKept _ _).mp h).2 (List.mem_singleton.mpr rfl)]
    simp only [Nat.zero_add, Nat.add_zero]
    unfold GatherDims.batchCoord
    rw [dif_pos (show (0 : Fin 3) ∈ gather_S4096x8x768_S4096x2x1_S4096x2x768_2_1_0_0_1_2_11768.operandBatchingDims from List.mem_singleton.mpr rfl)]
    rfl
  · rw [GatherDims.batchCoord_eq_zero _ _ _ (show (1 : Fin 3) ∉ [(0 : Fin 3)] by decide),
      GatherDims.offCoord_eq_zero _ _ _ fun h => ((GatherDims.mem_sKept _ _).mp h).1 (List.mem_singleton.mpr rfl)]
    simp only [Nat.add_zero]
    unfold GatherDims.start
    rw [dif_pos (show (1 : Fin 3) ∈ gather_S4096x8x768_S4096x2x1_S4096x2x768_2_1_0_0_1_2_11768.startIndexMap from List.mem_singleton.mpr rfl)]
    have hsi : ∀ c, GatherDims.siIdx gather_S4096x8x768_S4096x2x1_S4096x2x768_2_1_0_0_1_2_11768 (ix3 n k d) c = ix3 n k 0 := fun c => by
      funext y; refine Fin.ext ?_
      match y with
      | ⟨0, _⟩ => rfl
      | ⟨1, _⟩ => rfl
      | ⟨2, _⟩ => exact Nat.lt_one_iff.mp c.isLt
    rw [hsi, he]
    exact hv e
  · rw [GatherDims.batchCoord_eq_zero _ _ _ (show (2 : Fin 3) ∉ [(0 : Fin 3)] by decide)]
    unfold GatherDims.start
    rw [dif_neg (show (2 : Fin 3) ∉ gather_S4096x8x768_S4096x2x1_S4096x2x768_2_1_0_0_1_2_11768.startIndexMap from show (2 : Fin 3) ∉ [(1 : Fin 3)] by decide)]
    simp only [Nat.zero_add]
    unfold GatherDims.offCoord
    rw [dif_pos (show (2 : Fin 3) ∈ gather_S4096x8x768_S4096x2x1_S4096x2x768_2_1_0_0_1_2_11768.sKept from (GatherDims.mem_sKept _ _).mpr
      ⟨show (2 : Fin 3) ∉ [(1 : Fin 3)] by decide, show (2 : Fin 3) ∉ [(0 : Fin 3)] by decide⟩)]
    rfl

/-- So the expert it names is taken. -/
theorem taken_apply (o : FVec Ideal S4096x8x768 .f32) (w : IVec S4096x2x1 32) (n : Fin 4096) (k : Fin 2) (d : Fin 768) (e : Fin 8)
    (he : w (ix3 n k 0) = BitVec.ofNat 32 e.val) : taken o w (ix3 n k d) = o (ix3 n e d) := by
  pointwise [taken]
  rw [named_apply w n k e he, gather_apply o w n k d e he]
  rfl

/-- The mix of two. -/
theorem mix_apply (o : FVec Ideal S4096x2x768 .f32) (g : FVec Ideal S2x2048x2 .f32) (p : Fin 2) (q : Fin 2048) (n : Fin 4096) (hn : IsRow p q n) (d : Fin 768) :
    mix o g (ix2 n d) = o (ix3 n 0 d) * g (ix3 p q 0) + o (ix3 n 1 d) * g (ix3 p q 1) := by
  pointwise [mix]
  rw [Fin.sum_univ_two]
  simp only [hn.batch, hn.place]

/-! ## The result -/

/-- THE REFERENCE'S RESULT at `(p, q, d)`, for a row with real logits. -/
theorem result_apply (x : FVec Ideal S2x2048x768 .f32) (g b : FVec Ideal S768 .f32) (wr : FVec Ideal S768x8 .f32) (br : FVec Ideal S8 .f32)
    (w1 : FVec Ideal S8x768x3072 .f32) (b1 : FVec Ideal S8x3072 .f32) (w2 : FVec Ideal S8x3072x768 .f32) (b2 : FVec Ideal S8x768 .f32)
    (p : Fin 2) (q : Fin 2048) (d : Fin 768)
    (h : Fin 768 → EReal) (hh : h = norm (fun k => x (ix3 p q k)) (fun k => g (ix1 k)) (fun k => b (ix1 k)))
    (L : Fin 8 → EReal) (hL : L = logit h (fun k e => wr (ix2 k e)) (fun e => br (ix1 e)))
    {a a' : Fin 8} (hR : ∀ e, IsReal (L e)) (ha : FirstMax L a) (ha' : FirstMax (without L a) a') :
    result x g b wr br w1 b1 w2 b2 (ix3 p q d)
      = rowOut (fun k => x (ix3 p q k)) h L (fun e k j => w1 (ix3 e k j)) (fun e j => b1 (ix2 e j)) (fun e j k => w2 (ix3 e j k))
        (fun e k => b2 (ix2 e k)) a a' d := by
  obtain ⟨n, hn⟩ := exists_row p q
  have eh : (fun k => normal x g b (ix3 p q k)) = h := by rw [hh]; exact funext fun k => normal_apply x g b p q k
  have eL : ∀ e, logits (normal x g b) wr br (ix3 p q e) = L e := fun e => by rw [logits_apply, eh, hL]
  have top := top_apply (logits (normal x g b) wr br) p q L eL hR ha ha'
  obtain ⟨r, hr⟩ := hR a
  obtain ⟨s, hs⟩ := hR a'
  have hle : s ≤ r := by
    have := ha.le a'
    rw [hr, hs] at this
    exact EReal.coe_le_coe_iff.mp this
  obtain ⟨g0, g1⟩ := gates_apply _ p q r s ((top 0).1.trans hr) ((top 1).1.trans hs) hle
  have i0 := index_apply _ p q n hn 0 a (top 0).2
  have i1 := index_apply _ p q n hn 1 a' (top 1).2
  unfold rowOut
  pointwise [result]
  rw [hn.whole, mix_apply _ _ p q n hn, g0, g1, taken_apply _ _ n 0 d a i0, taken_apply _ _ n 1 d a' i1, experts_apply _ _ _ _ _ p q n hn, experts_apply _ _ _ _ _ p q n hn, eh, hr, hs]

end Cert.ReferenceIdeal.Moe

end
-- ==== Proof.Finite.lean ====
/-
  The precondition, read at the elements: both layer-norm parameters and the router's two arrays hold
  reals.
-/
module

public import proofs.«01_k».proof.Proof.Spec
public import proofs.«01_k».proof.Proof.Gen.Pre_finite
public import Idealize.ShloMosaic.Lib.ReduceAll

@[expose] public section

set_option maxRecDepth 16384

noncomputable section

namespace Cert.Moe

open Cert.Pre_finite Cert.Pre_finite.Gen
open Idealize.ShloMosaic

/-- There is one index of no axes. -/
instance : Subsingleton S_.Idx := ⟨fun _ _ => funext fun a => a.elim0⟩

/-- A set bit of the comparison "the magnitude is below the greatest value" makes the element a real. -/
theorem real_of_bit {s : Shape} (x : FVec Ideal s .f32) (h : S_.BroadcastsInDim s ![]) (i : s.Idx)
    (e : cmpf .olt (Host.absf x) (broadcastInDim s ![] h (constant S_ .f32 0x7F800000#32)) i = 1#1) : IsReal (x i) := by
  have e' : BitVec.ofBool (decide (max (x i) (-(x i)) < Ideal.ofBits .f32 0x7F800000#32)) = 1#1 := e
  rw [greatest_eq] at e'
  refine IsReal.of_abs_lt ?_
  by_contra hc
  rw [decide_eq_false hc] at e'
  exact absurd e' (by decide)

/-- Of a conjunction of bits that is set, both are. -/
theorem and_bits {x y : IVec S_ 1} {i : S_.Idx} (e : andi x y i = 1#1) : x i = 1#1 ∧ y i = 1#1 := by
  have e' : x i &&& y i = 1#1 := e
  generalize x i = p at *
  generalize y i = q at *
  revert p q
  decide

/-- The precondition makes the four arrays real everywhere. -/
theorem real_of_pre (x : FVec Ideal S2x2048x768 .f32) (g b : FVec Ideal S768 .f32) (wr : FVec Ideal S768x8 .f32) (br : FVec Ideal S8 .f32)
    (w1 : FVec Ideal S8x768x3072 .f32) (b1 : FVec Ideal S8x3072 .f32) (w2 : FVec Ideal S8x3072x768 .f32) (b2 : FVec Ideal S8x768 .f32)
    (h : fn x g b wr br w1 b1 w2 b2 = fun _ => 1#1) :
    (∀ i, IsReal (g i)) ∧ (∀ i, IsReal (b i)) ∧ (∀ i, IsReal (wr i)) ∧ ∀ i, IsReal (br i) := by
  have h0 := congrFun h (fun a => a.elim0)
  unfold fn fn_part1 at h0
  dsimp only at h0
  obtain ⟨h0, h4⟩ := and_bits h0
  obtain ⟨h0, h3⟩ := and_bits h0
  obtain ⟨h1, h2⟩ := and_bits h0
  exact ⟨fun i => real_of_bit g _ i (Host.reduce_andi_all _ _ _ _ _ h1 i), fun i => real_of_bit b _ i (Host.reduce_andi_all _ _ _ _ _ h2 i),
    fun i => real_of_bit wr _ i (Host.reduce_andi_all _ _ _ _ _ h3 i), fun i => real_of_bit br _ i (Host.reduce_andi_all _ _ _ _ _ h4 i)⟩

end Cert.Moe

end
-- ==== Proof.Equation.lean ====
/-
  The equation of the two programs: under the precondition the kernel's result is the reference's.
-/
module

public import proofs.«01_k».proof.Proof.KernelValue
public import proofs.«01_k».proof.Proof.RefRead
public import proofs.«01_k».proof.Proof.Finite

@[expose] public section

set_option maxRecDepth 16384

noncomputable section

namespace Cert.Moe

open Idealize.ShloMosaic Idealize.ShloMosaic.TcCoe Idealize.SL.Sem
open Cert.KernelIdeal Cert.KernelIdeal.Gen

/-- The kernel's result of a launch whose arguments satisfy the precondition is the reference's of the same arguments. -/
theorem results_eq (m : (ℓ : Loc nD τ sig) → Buf (Elt Ideal) ℓ) (c : Dev nD)
    (x : Vec Ideal S2x2048x768 .f32) (hx : m ((c : Thread nD τ).loc main_arg0) = x) (g : Vec Ideal S768 .f32) (hg : m ((c : Thread nD τ).loc main_arg1) = g)
    (b : Vec Ideal S768 .f32) (hb : m ((c : Thread nD τ).loc main_arg2) = b) (wr : Vec Ideal S768x8 .f32) (hwr : m ((c : Thread nD τ).loc main_arg3) = wr)
    (br : Vec Ideal S8 .f32) (hbr : m ((c : Thread nD τ).loc main_arg4) = br) (w1 : Vec Ideal S8x768x3072 .f32) (hw1 : m ((c : Thread nD τ).loc main_arg5) = w1)
    (b1 : Vec Ideal S8x3072 .f32) (hb1 : m ((c : Thread nD τ).loc main_arg6) = b1) (w2 : Vec Ideal S8x3072x768 .f32) (hw2 : m ((c : Thread nD τ).loc main_arg7) = w2)
    (b2 : Vec Ideal S8x768 .f32) (hb2 : m ((c : Thread nD τ).loc main_arg8) = b2)
    (hpre : Cert.Pre_finite.fn (F := Ideal) x g b wr br w1 b1 w2 b2 = fun _ => 1#1) :
    (shapeCast S2x2048x768 (KernelIdeal.Moe.whole m c) shapeCasts_S4096x768_S2x2048x768 : Vec Ideal S2x2048x768 .f32)
      = ReferenceIdeal.Moe.result (F := Ideal) x g b wr br w1 b1 w2 b2 := by
  obtain ⟨rg, rb, rwr, rbr⟩ := real_of_pre x g b wr br w1 b1 w2 b2 hpre
  funext i
  obtain ⟨p, q, d, rfl⟩ : ∃ (p : Fin 2) (q : Fin 2048) (d : Fin 768), i = ix3 p q d := ⟨i 0, i 1, i 2, ValueIdx.eq_ix3 i⟩
  have hR : ∀ e, IsReal (logit (norm (fun k => x (ix3 p q k)) (fun k => g (ix1 k)) (fun k => b (ix1 k))) (fun k e => wr (ix2 k e)) (fun e => br (ix1 e)) e) :=
    logit_real (norm_real _ (fun k => rg _) fun k => rb _) (fun k e => rwr _) fun e => rbr _
  obtain ⟨a, ha⟩ := exists_firstMax (logit (norm (fun k => x (ix3 p q k)) (fun k => g (ix1 k)) (fun k => b (ix1 k))) (fun k e => wr (ix2 k e)) (fun e => br (ix1 e)))
  obtain ⟨a', ha'⟩ := exists_firstMax (without (logit (norm (fun k => x (ix3 p q k)) (fun k => g (ix1 k)) (fun k => b (ix1 k))) (fun k e => wr (ix2 k e)) (fun e => br (ix1 e))) a)
  exact (KernelIdeal.Moe.result_apply m c p q d x hx g hg b hb wr hwr br hbr w1 hw1 b1 hb1 w2 hw2 b2 hb2 _ rfl _ rfl hR ha ha').trans
    (ReferenceIdeal.Moe.result_apply x g b wr br w1 b1 w2 b2 p q d _ rfl _ rfl hR ha ha').symm

end Cert.Moe

end
-- ==== Proof.lean ====
/-
  The certificate of a fused mixture-of-experts layer.

  The two kernels' frames and the reference's run are generated. The mathematics is in small modules:
  `Proof/KernelRun.lean` (what the launch leaves in the result array), `Proof/KernelRead.lean` (what one grid point
  computes), `Proof/KernelValue.lean` (what the array holds), `Proof/RefStages.lean` and `Proof/RefRead.lean` (what the
  reference computes), `Proof/Spec.lean`, `Proof/Select.lean` and `Proof/Mix.lean` (one row's mathematics),
  `Proof/Finite.lean` (the precondition) and `Proof/Equation.lean` (the equation). This file assembles them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference leaves its arguments unchanged, and it declares no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value claim: from arguments that satisfy the precondition, both programs end with the kernel's result. -/
theorem algebraic : Cert.algebraic_KernelIdeal_ReferenceIdeal_pre_finite := by
  intro m ρ m' ρ' hpre hagree
  refine ⟨fun c => shapeCast Cert.KernelIdeal.S2x2048x768 (Cert.KernelIdeal.Moe.whole m c) Cert.KernelIdeal.Gen.shapeCasts_S4096x768_S2x2048x768, ?_, ?_⟩
  · exact (θ_run Cert.KernelIdeal.defs _ _).mono (fun r h c => ⟨h.1 c, h.2 c⟩)
      (θ_run_and (Cert.KernelIdeal.Moe.run (F := Ideal) m ρ) (Cert.KernelIdeal.Gen.unchanged (F := Ideal) m ρ))
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8⟩ := hagree c
    rw [Cert.ReferenceIdeal.Moe.result_eq, h0, h1, h2, h3, h4, h5, h6, h7, h8]
    exact (Cert.Moe.results_eq m c _ rfl _ rfl _ rfl _ rfl _ rfl _ rfl _ rfl _ rfl _ rfl (hpre c)).symm

/-- The certificate: the two kernels' frames, the reference's, the named constant's rule and the value claim. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    IdealRules.named_const.statement Cert.KernelIdeal.κ "mask" .f32 0xF149F2CA#32 ⊥ rfl,
    algebraic⟩

end Cert.Proof

end
